-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router_KernelIdeal [hPre_finite_router_KernelIdeal : Cert.Pre_finite_router_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router_ReferenceIdeal [hPre_finite_router_ReferenceIdeal : Cert.Pre_finite_router_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_router_KernelIdeal [hKernelIdeal : Cert.KernelIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_router_ReferenceIdeal [hReferenceIdeal : Cert.ReferenceIdeal.Facts] [hPre_finite_router_ReferenceIdeal : Cert.Pre_finite_router_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_router_KernelIdeal [hKernelIdeal : Cert.KernelIdeal.Facts] [hReferenceIdeal : Cert.ReferenceIdeal.Facts] [hPre_finite_router_KernelIdeal : Cert.Pre_finite_router_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_router_KernelIdeal : Cert.Pre_finite_router_KernelIdeal.Facts) (hPre_finite_router_ReferenceIdeal : Cert.Pre_finite_router_ReferenceIdeal.Facts),
    quiescent_Kernel (hKernel := hKernel)
    ∧ quiescent_KernelIdeal (hKernelIdeal := hKernelIdeal)
    ∧ quiescent_KernelIdeal_pre_finite_router_KernelIdeal (hKernelIdeal := hKernelIdeal) (hPre_finite_router_KernelIdeal := hPre_finite_router_KernelIdeal)
    ∧ quiescent_ReferenceIdeal (hReferenceIdeal := hReferenceIdeal)
    ∧ quiescent_ReferenceIdeal_pre_finite_router_ReferenceIdeal (hReferenceIdeal := hReferenceIdeal) (hPre_finite_router_ReferenceIdeal := hPre_finite_router_ReferenceIdeal)
    ∧ preserves_Kernel_KernelIdeal
    ∧ algebraic_KernelIdeal_ReferenceIdeal_pre_finite_router_KernelIdeal (hKernelIdeal := hKernelIdeal) (hReferenceIdeal := hReferenceIdeal) (hPre_finite_router_KernelIdeal := hPre_finite_router_KernelIdeal)
-- ==== Pre_finite_router_KernelIdeal.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .bf16) (main_arg1 : FVec F S256x16 .bf16) (main_arg2 : IVec S512x1 32) (main_arg3 : FVec F S4x256x512 .bf16) (main_arg4 : FVec F S256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x16 .bf16 := Host.absf main_arg1
  let main_cst_0 : FVec F S_ .bf16 := constant S_ .bf16 0x7F80#16
  let main_v5 : FVec F S256x16 .bf16 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Pre_finite_router_ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S512x256 .bf16) (main_arg1 : FVec F S256x16 .bf16) (main_arg2 : IVec S512x1 32) (main_arg3 : FVec F S16x256x512 .bf16) (main_arg4 : FVec F S256x512 .bf16) : IVec S_ 1 :=
  let main_v0 : FVec F S512x256 .bf16 := Host.absf main_arg0
  let main_cst : FVec F S_ .bf16 := constant S_ .bf16 0x7F80#16
  let main_v1 : FVec F S512x256 .bf16 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x16 .bf16 := Host.absf main_arg1
  let main_cst_0 : FVec F S_ .bf16 := constant S_ .bf16 0x7F80#16
  let main_v5 : FVec F S256x16 .bf16 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S3x512x128 : Shape := ⟨3, ![3, 512, 128]⟩
abbrev S2x3 : Shape := ⟨2, ![2, 3]⟩
abbrev S_ : Shape := ⟨0, ![]⟩
abbrev S512x16 : Shape := ⟨2, ![512, 16]⟩
abbrev S512 : Shape := ⟨1, ![512]⟩
abbrev S1x256x128 : Shape := ⟨3, ![1, 256, 128]⟩
abbrev S256x128 : Shape := ⟨2, ![256, 128]⟩
abbrev S512x128 : Shape := ⟨2, ![512, 128]⟩
abbrev S1x512x128 : Shape := ⟨3, ![1, 512, 128]⟩
abbrev S1x1 : Shape := ⟨2, ![1, 1]⟩

abbrev nBuf : Space → Nat
  | .hbm => 6
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S4x256x512, .bf16⟩
  | .hbm, ⟨4, _⟩ => ⟨S256x512, .bf16⟩
  | .hbm, ⟨5, _⟩ => ⟨S512x512, .bf16⟩
  | .local _ .vmem, ⟨0, _⟩ => ⟨S512x256, .bf16⟩
  | .local _ .vmem, ⟨1, _⟩ => ⟨S256x16, .bf16⟩
  | .local _ .vmem, ⟨2, _⟩ => ⟨S512x1, .i32⟩
  | .local _ .vmem, ⟨3, _⟩ => ⟨S4x256x512, .bf16⟩
  | .local _ .vmem, ⟨4, _⟩ => ⟨S256x512, .bf16⟩
  | .local _ .vmem, ⟨5, _⟩ => ⟨S512x512, .bf16⟩
  | .local _ .vmem, ⟨6, _⟩ => ⟨S3x512x128, .bf16⟩
  | .local _ .vmem, ⟨7, _⟩ => ⟨S3x512x128, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c2_i32_34 : BitVec 32) : Fin 3 → Nat :=
  let c0_36 : Index := 0#32
  let c0_37 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : BitVec 32 := Scalar.addi v2 c2_i32_34
  let c4_i32_35 : BitVec 32 := 4#32
  let v76 : BitVec 32 := Scalar.remsi v75 c4_i32_35
  let c128_i32 : BitVec 32 := 128#32
  let v77 : BitVec 32 := Scalar.muli v76 c128_i32
  let v78 : Index := Scalar.indexCast v77
  ![0, 0, v78.toNat]
def k0_off2 (d0 : Dev nD) (c2_i32_34 : BitVec 32) : Fin 3 → Nat :=
  let c1 : Index := 1#32
  let c0_39 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : BitVec 32 := Scalar.addi v2 c2_i32_34
  let c4_i32_35 : BitVec 32 := 4#32
  let v76 : BitVec 32 := Scalar.remsi v75 c4_i32_35
  let c128_i32 : BitVec 32 := 128#32
  let v77 : BitVec 32 := Scalar.muli v76 c128_i32
  let v82 : Index := Scalar.indexCast v77
  ![1, 0, v82.toNat]
def k0_off3 (d0 : Dev nD) (c2_i32_34 : BitVec 32) : Fin 3 → Nat :=
  let c2 : Index := 2#32
  let c0_41 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : BitVec 32 := Scalar.addi v2 c2_i32_34
  let c4_i32_35 : BitVec 32 := 4#32
  let v76 : BitVec 32 := Scalar.remsi v75 c4_i32_35
  let c128_i32 : BitVec 32 := 128#32
  let v77 : BitVec 32 := Scalar.muli v76 c128_i32
  let v87 : Index := Scalar.indexCast v77
  ![2, 0, v87.toNat]
def k0_off4 (d0 : Dev nD) (c2_i32_34 : BitVec 32) : Fin 3 → Nat :=
  let c3 : Index := 3#32
  let c0_43 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : BitVec 32 := Scalar.addi v2 c2_i32_34
  let c4_i32_35 : BitVec 32 := 4#32
  let v76 : BitVec 32 := Scalar.remsi v75 c4_i32_35
  let c128_i32 : BitVec 32 := 128#32
  let v77 : BitVec 32 := Scalar.muli v76 c128_i32
  let v92 : Index := Scalar.indexCast v77
  ![3, 0, v92.toNat]
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v75 : BitVec 32 := Scalar.addi v2 c2_i32_34
  let c4_i32_35 : BitVec 32 := 4#32
  let v76 : BitVec 32 := Scalar.remsi v75 c4_i32_35
  let c1_i32_54 : BitVec 32 := 1#32
  let v101 : BitVec 32 := Scalar.muli v76 c1_i32_54
  let v102 : BitVec 32 := Scalar.addi c0_i32_55 v101
  v102.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v75 : BitVec 32 := Scalar.addi v2 c2_i32_34
  let c4_i32_35 : BitVec 32 := 4#32
  let v76 : BitVec 32 := Scalar.remsi v75 c4_i32_35
  let c1_i32_66 : BitVec 32 := 1#32
  let v111 : BitVec 32 := Scalar.muli v76 c1_i32_66
  let v112 : BitVec 32 := Scalar.addi c0_i32_67 v111
  v112.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v121 : BitVec 32 := Scalar.addi v2 c1_i32_71
  let c4_i32_72 : BitVec 32 := 4#32
  let v122 : BitVec 32 := Scalar.remsi v121 c4_i32_72
  let c1_i32_95 : BitVec 32 := 1#32
  let v147 : BitVec 32 := Scalar.muli v122 c1_i32_95
  let v148 : BitVec 32 := Scalar.addi c0_i32_96 v147
  v148.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v121 : BitVec 32 := Scalar.addi v2 c1_i32_71
  let c4_i32_72 : BitVec 32 := 4#32
  let v122 : BitVec 32 := Scalar.remsi v121 c4_i32_72
  let c1_i32_107 : BitVec 32 := 1#32
  let v157 : BitVec 32 := Scalar.muli v122 c1_i32_107
  let v158 : BitVec 32 := Scalar.addi c0_i32_108 v157
  v158.toNat
def k0_dev8 (d0 : Dev nD) : Nat :=
  let c0_i32_138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v167 : BitVec 32 := Scalar.addi v2 c3_i32_113
  let c4_i32_114 : BitVec 32 := 4#32
  let v168 : BitVec 32 := Scalar.remsi v167 c4_i32_114
  let c1_i32_137 : BitVec 32 := 1#32
  let v193 : BitVec 32 := Scalar.muli v168 c1_i32_137
  let v194 : BitVec 32 := Scalar.addi c0_i32_138 v193
  v194.toNat
def k0_dev9 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v167 : BitVec 32 := Scalar.addi v2 c3_i32_113
  let c4_i32_114 : BitVec 32 := 4#32
  let v168 : BitVec 32 := Scalar.remsi v167 c4_i32_114
  let c1_i32_149 : BitVec 32 := 1#32
  let v203 : BitVec 32 := Scalar.muli v168 c1_i32_149
  let v204 : BitVec 32 := Scalar.addi c0_i32_150 v203
  v204.toNat
def k0_off5 (d0 : Dev nD) : Fin 3 → Nat :=
  let c0_156 : Index := 0#32
  let c0_157 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_155 : BitVec 32 := 128#32
  let v213 : BitVec 32 := Scalar.muli v2 c128_i32_155
  let v214 : Index := Scalar.indexCast v213
  ![0, 0, v214.toNat]
def k0_off6 (d0 : Dev nD) : Fin 3 → Nat :=
  let c1_159 : Index := 1#32
  let c0_160 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_155 : BitVec 32 := 128#32
  let v213 : BitVec 32 := Scalar.muli v2 c128_i32_155
  let v218 : Index := Scalar.indexCast v213
  ![1, 0, v218.toNat]
def k0_off7 (d0 : Dev nD) : Fin 3 → Nat :=
  let c2_162 : Index := 2#32
  let c0_163 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_155 : BitVec 32 := 128#32
  let v213 : BitVec 32 := Scalar.muli v2 c128_i32_155
  let v223 : Index := Scalar.indexCast v213
  ![2, 0, v223.toNat]
def k0_off8 (d0 : Dev nD) : Fin 3 → Nat :=
  let c3_165 : Index := 3#32
  let c0_166 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_155 : BitVec 32 := 128#32
  let v213 : BitVec 32 := Scalar.muli v2 c128_i32_155
  let v228 : Index := Scalar.indexCast v213
  ![3, 0, v228.toNat]
def k0_off9 (d0 : Dev nD) : Fin 2 → Nat :=
  let c0_169 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_168 : BitVec 32 := 128#32
  let v233 : BitVec 32 := Scalar.muli v2 c128_i32_168
  let v234 : Index := Scalar.indexCast v233
  ![0, v234.toNat]
def k0_off10 (d0 : Dev nD) : Fin 2 → Nat :=
  let c0_217 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_216 : BitVec 32 := 128#32
  let v277 : BitVec 32 := Scalar.muli v2 c128_i32_216
  let v278 : Index := Scalar.indexCast v277
  ![0, v278.toNat]
def k0_off11 (d0 : Dev nD) : Fin 2 → Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_221 : BitVec 32 := 128#32
  let v283 : BitVec 32 := Scalar.muli v2 c128_i32_221
  ![0, v283.toNat]
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_218 : BitVec 32 := 2#32
  let v280 : BitVec 32 := Scalar.addi v2 c2_i32_218
  let c4_i32_219 : BitVec 32 := 4#32
  let v281 : BitVec 32 := Scalar.remsi v280 c4_i32_219
  let c1_i32_226 : BitVec 32 := 1#32
  let v284 : BitVec 32 := Scalar.muli v281 c1_i32_226
  let v285 : BitVec 32 := Scalar.addi c0_i32_227 v284
  v285.toNat
def k0_dev11 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_230 : BitVec 32 := 1#32
  let v292 : BitVec 32 := Scalar.addi v2 c1_i32_230
  let c4_i32_231 : BitVec 32 := 4#32
  let v293 : BitVec 32 := Scalar.remsi v292 c4_i32_231
  let c1_i32_238 : BitVec 32 := 1#32
  let v296 : BitVec 32 := Scalar.muli v293 c1_i32_238
  let v297 : BitVec 32 := Scalar.addi c0_i32_239 v296
  v297.toNat
def k0_dev12 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_242 : BitVec 32 := 3#32
  let v304 : BitVec 32 := Scalar.addi v2 c3_i32_242
  let c4_i32_243 : BitVec 32 := 4#32
  let v305 : BitVec 32 := Scalar.remsi v304 c4_i32_243
  let c1_i32_250 : BitVec 32 := 1#32
  let v308 : BitVec 32 := Scalar.muli v305 c1_i32_250
  let v309 : BitVec 32 := Scalar.addi c0_i32_251 v308
  v309.toNat
def k0_off12 (d0 : Dev nD) : Fin 2 → Nat :=
  let c256_299 : Index := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_298 : BitVec 32 := 128#32
  let v354 : BitVec 32 := Scalar.muli v2 c128_i32_298
  let v355 : Index := Scalar.indexCast v354
  ![256, v355.toNat]
def k0_off13 (d0 : Dev nD) : Fin 2 → Nat :=
  let c256_i32_310 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_303 : BitVec 32 := 128#32
  let v360 : BitVec 32 := Scalar.muli v2 c128_i32_303
  ![256, v360.toNat]
def k0_dev13 (d0 : Dev nD) : Nat :=
  let c0_i32_309 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_300 : BitVec 32 := 2#32
  let v357 : BitVec 32 := Scalar.addi v2 c2_i32_300
  let c4_i32_301 : BitVec 32 := 4#32
  let v358 : BitVec 32 := Scalar.remsi v357 c4_i32_301
  let c1_i32_308 : BitVec 32 := 1#32
  let v361 : BitVec 32 := Scalar.muli v358 c1_i32_308
  let v362 : BitVec 32 := Scalar.addi c0_i32_309 v361
  v362.toNat
def k0_dev14 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_312 : BitVec 32 := 1#32
  let v369 : BitVec 32 := Scalar.addi v2 c1_i32_312
  let c4_i32_313 : BitVec 32 := 4#32
  let v370 : BitVec 32 := Scalar.remsi v369 c4_i32_313
  let c1_i32_320 : BitVec 32 := 1#32
  let v373 : BitVec 32 := Scalar.muli v370 c1_i32_320
  let v374 : BitVec 32 := Scalar.addi c0_i32_321 v373
  v374.toNat
def k0_dev15 (d0 : Dev nD) : Nat :=
  let c0_i32_333 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_324 : BitVec 32 := 3#32
  let v381 : BitVec 32 := Scalar.addi v2 c3_i32_324
  let c4_i32_325 : BitVec 32 := 4#32
  let v382 : BitVec 32 := Scalar.remsi v381 c4_i32_325
  let c1_i32_332 : BitVec 32 := 1#32
  let v385 : BitVec 32 := Scalar.muli v382 c1_i32_332
  let v386 : BitVec 32 := Scalar.addi c0_i32_333 v385
  v386.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x16 : Shape := ⟨2, ![256, 16]⟩
abbrev S512x1 : Shape := ⟨2, ![512, 1]⟩
abbrev S16x256x512 : Shape := ⟨3, ![16, 256, 512]⟩
abbrev S256x512 : Shape := ⟨2, ![256, 512]⟩
abbrev S512x16 : Shape := ⟨2, ![512, 16]⟩
abbrev S_ : Shape := ⟨0, ![]⟩
abbrev S512 : Shape := ⟨1, ![512]⟩
abbrev S512x512 : Shape := ⟨2, ![512, 512]⟩
abbrev S512x16x512 : Shape := ⟨3, ![512, 16, 512]⟩
abbrev S512x1x1 : Shape := ⟨3, ![512, 1, 1]⟩
abbrev S512x1x512 : Shape := ⟨3, ![512, 1, 512]⟩

abbrev nBuf : Space → Nat
  | .hbm => 57
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S16x256x512, .bf16⟩
  | .hbm, ⟨4, _⟩ => ⟨S256x512, .bf16⟩
  | .hbm, ⟨5, _⟩ => ⟨S512x256, .f32⟩
  | .hbm, ⟨6, _⟩ => ⟨S256x16, .f32⟩
  | .hbm, ⟨7, _⟩ => ⟨S512x16, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S512x16, .f32⟩
  | .hbm, ⟨12, _⟩ => ⟨S512x16, .f32⟩
  | .hbm, ⟨13, _⟩ => ⟨S512x16, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x16, .f32⟩
  | .hbm, ⟨18, _⟩ => ⟨S512x16, .f32⟩
  | .hbm, ⟨19, _⟩ => ⟨S256x512, .f32⟩
  | .hbm, ⟨20, _⟩ => ⟨S512x512, .f32⟩
  | .hbm, ⟨21, _⟩ => ⟨S16x256x512, .f32⟩
  | .hbm, ⟨22, _⟩ => ⟨S512x16x512, .f32⟩
  | .hbm, ⟨23, _⟩ => ⟨S_, .i32⟩
  | .hbm, ⟨24, _⟩ => ⟨S512x1, .i32⟩
  | .hbm, ⟨25, _⟩ => ⟨S512x1, .i1⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S_, .i32⟩
  | .hbm, ⟨31, _⟩ => ⟨S512x1, .i32⟩
  | .hbm, ⟨32, _⟩ => ⟨S512x1, .i1⟩
  | .hbm, ⟨33, _⟩ => ⟨S_, .i32⟩
  | .hbm, ⟨34, _⟩ => ⟨S512x1, .i32⟩
  | .hbm, ⟨35, _⟩ => ⟨S512x1, .i32⟩
  | .hbm, ⟨36, _⟩ => ⟨S512x1, .i32⟩
  | .hbm, ⟨37, _⟩ => ⟨S512x1x1, .i32⟩
  | .hbm, ⟨38, _⟩ => ⟨S512x1, .f32⟩
  | .hbm, ⟨39, _⟩ => ⟨S_, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S512x1x1, .i32⟩
  | .hbm, ⟨44, _⟩ => ⟨S_, .i32⟩
  | .hbm, ⟨45, _⟩ => ⟨S512x1x1, .i32⟩
  | .hbm, ⟨46, _⟩ => ⟨S512x1x1, .i1⟩
  | .hbm, ⟨47, _⟩ => ⟨S_, .i32⟩
  | .hbm, ⟨48, _⟩ => ⟨S512x1x1, .i32⟩
  | .hbm, ⟨49, _⟩ => ⟨S512x1x1, .i32⟩
  | .hbm, ⟨50, _⟩ => ⟨S512x1x1, .i32⟩
  | .hbm, ⟨51, _⟩ => ⟨S512x1x512, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S512x512, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_v23 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Proof.Moe.Common.lean ====
/-
  The exchange's vocabulary: the ring of four devices, the kernel's buffers cut into the blocks its copies move, and
  the semaphore cells, each named by an index.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Memref
public import Idealize.ShloMosaic.Lib.Ring.Trips
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the exchange's -/

/-- The exchange's rounds: a cell's round has duties named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The device whose copies fill slot `k` here: the one `k + 1` places on. It is also the device the signal number
    `k` goes to. -/
def sr (c : Dev nD) (k : Fin 3) : Dev nD := ⟨(c.val + (k.val + 1)) % 4, Nat.mod_lt _ (by decide)⟩
set_option backward.proofsInPublic true in
/-- The device whose slot `k` this one fills: `k + 1` places back. -/
def pe (c : Dev nD) (k : Fin 3) : Dev nD := ⟨(c.val + (3 - k.val)) % 4, Nat.mod_lt _ (by decide)⟩

theorem sr_pe (c : Dev nD) (k : Fin 3) : sr (pe c k) k = c := by revert c k; decide
theorem pe_sr (c : Dev nD) (k : Fin 3) : pe (sr c k) k = c := by revert c k; decide

/-- Moving by slot `k` is a permutation of the devices. -/
def ringE (k : Fin 3) : Dev nD ≃ Dev nD := ⟨fun c => sr c k, fun c => pe c k, fun c => pe_sr c k, fun c => sr_pe c k⟩

/-! ## The buffers and their blocks -/

/-- Half `h` of a slot of a `3 × 512 × 128` buffer starts here. -/
abbrev offS (i : ℕ) (h : Fin 2) : Fin 3 → ℕ := ![i, 256 * h.val, 0]

theorem inb_offS (i : Fin 3) (h : Fin 2) : ∀ a, offS i.val h a + S1x256x128.size a ≤ S3x512x128.size a := by
  revert i h; decide

abbrev rectS (i : Fin 3) (h : Fin 2) : Rect S3x512x128 := Rect.unit (s := S3x512x128) (offS i.val h) S1x256x128.size (inb_offS i h)

/-- The partial-sum slot that slot `k`'s copies are taken from. -/
abbrev ps (k : Fin 3) : Fin 3 := ⟨2 - k.val, by omega⟩

/-- Half `h` of the partial sums for the device whose slot `k` this one fills. -/
abbrev partM (h : Fin 2) (k : Fin 3) : Memref sig .tc .vmem S256x128 .bf16 :=
  ((Memref.whole cc0_scratch0 : Memref sig .tc .vmem S3x512x128 .bf16).slice (rectS (ps k) h) (fun _ => rfl)).squeeze S256x128 squeezes_S1x256x128_S256x128
/-- Half `h` of the receive slot `k`. -/
abbrev rsM (h : Fin 2) (k : Fin 3) : Memref sig .tc .vmem S256x128 .bf16 :=
  ((Memref.whole cc0_scratch1 : Memref sig .tc .vmem S3x512x128 .bf16).slice (rectS k h) (fun _ => rfl)).squeeze S256x128 squeezes_S1x256x128_S256x128

/-- Block (`h`, `s`) of the result: half `h` of the rows, the columns of device `s`. -/
abbrev offO (h : Fin 2) (s : Dev nD) : Fin 2 → ℕ := ![256 * h.val, 128 * s.val]

theorem inb_offO (h : Fin 2) (s : Dev nD) : ∀ a, offO h s a + S256x128.size a ≤ S512x512.size a := by
  revert h s; decide

abbrev rectO (h : Fin 2) (s : Dev nD) : Rect S512x512 := Rect.unit (s := S512x512) (offO h s) S256x128.size (inb_offO h s)

abbrev outM (h : Fin 2) (s : Dev nD) : Memref sig .tc .vmem S256x128 .bf16 :=
  (Memref.whole cc0_stg5_0 : Memref sig .tc .vmem S512x512 .bf16).slice (rectO h s) (fun _ => rfl)

/-! ## The semaphore cells -/

/-- A DMA semaphore of the exchange: the array (sends and arrivals of the partial sums, sends and arrivals of the
    results), the half, the slot. -/
abbrev CI : Type := Fin 4 × Fin 2 × Fin 3

/-- The runtime's barrier semaphore. -/
abbrev barS : Sem sig := (SemArray.scalar (sig.barrier 0 rfl) : Sems sig S_).sem

set_option backward.proofsInPublic true in
def dsem (a : Fin 4) (h : Fin 2) (k : Fin 3) : DmaSem sig := ⟨6 + 6 * a.val + 3 * h.val + k.val, by
  show 6 + 6 * a.val + 3 * h.val + k.val < 30; omega⟩

abbrev osem (j : CI) : SemLoc sig := .dma (dsem j.1 j.2.1 j.2.2)
/-- All the exchange's semaphores: the barrier (`none`) and the four arrays'. -/
def csem : Option CI → SemLoc sig
  | none => .reg barS
  | some j => osem j
abbrev kcell (ck : Dev nD × Option CI) : GSem nD τ sig := ((ck.1 : Thread nD τ), csem ck.2)
abbrev barCell (c : Dev nD) : GSem nD τ sig := ((c : Thread nD τ), .reg barS)
abbrev dCell (c : Dev nD) (a : Fin 4) (h : Fin 2) (k : Fin 3) : GSem nD τ sig := ((c : Thread nD τ), .dma (dsem a h k))

/-- The bytes one block's copy counts. -/
abbrev N : ℕ := (rsM 0 0).view.dmaCredit
theorem N_pos : 0 < N := View.dmaCredit_pos _ (by decide)

end Cert.Moe
-- ==== Proof.Moe.Sched.lean ====
/-
  What each block carries, and the exchange's schedule: which cell is paid by whom, with what.
-/
module

public import proofs.«01_k».proof.Proof.Moe.Common

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Contents -/

/-- One device's inputs, as its kernel reads them: the tokens, the router's weights, the routed expert of each token,
    the device's four experts, the shared expert. -/
structure Ins (F : FTy → Type) where
  x : Vec F S512x256 .bf16
  rw : Vec F S256x16 .bf16
  ix : Vec F S512x1 .i32
  ew : Vec F S4x256x512 .bf16
  sw : Vec F S256x512 .bf16

theorem inb_wcol (le : Fin 4) (o : Dev nD) : ∀ a, (![le.val, 0, 128 * o.val] : Fin 3 → ℕ) a + S1x256x128.size a ≤ S4x256x512.size a := by
  revert le o; decide
theorem inb_scol (o : Dev nD) : ∀ a, (![0, 128 * o.val] : Fin 2 → ℕ) a + S256x128.size a ≤ S256x512.size a := by
  revert o; decide

/-- Expert `le`'s weights in the columns of device `o`. -/
def wcol (ew : Vec F S4x256x512 .bf16) (le : Fin 4) (o : Dev nD) : Vec F S1x256x128 .bf16 :=
  fun y => ew ((Rect.unit (s := S4x256x512) ![le.val, 0, 128 * o.val] S1x256x128.size (inb_wcol le o)).emb y)
/-- The shared expert's weights in the columns of device `o`. -/
def scol (sw : Vec F S256x512 .bf16) (o : Dev nD) : Vec F S256x128 .bf16 :=
  fun y => sw ((Rect.unit (s := S256x512) ![0, 128 * o.val] S256x128.size (inb_scol o)).emb y)

section Contents
variable (I : Dev nD → Ins F)

/-- The device's place in the mesh, as its kernel computes it. -/
def v2w (c : Dev nD) : BitVec 32 := Scalar.remsi (Scalar.divsi (Dev.word c) 1#32) 4#32
/-- The tokens. -/
def xs (c : Dev nD) : FVec F S512x256 .bf16 := k0_pay1 (I c).x
/-- The router's probabilities. -/
def pr (c : Dev nD) : FVec F S512x16 .f32 := k0_pay2 (I c).x (I c).rw
/-- The tokens scaled for the device's experts 0 to 3. -/
def xe0 (c : Dev nD) : FVec F S512x256 .bf16 := k0_pay5 (v2w c) (xs I c) (pr I c) (I c).ix
def xe1 (c : Dev nD) : FVec F S512x256 .bf16 := k0_pay6 (v2w c) (xs I c) (pr I c) (I c).ix
def xe2 (c : Dev nD) : FVec F S512x256 .bf16 := k0_pay7 (v2w c) (xs I c) (pr I c) (I c).ix
def xe3 (c : Dev nD) : FVec F S512x256 .bf16 := k0_pay8 (v2w c) (xs I c) (pr I c) (I c).ix

/-- The partial sums device `c` computes for the device whose slot `k` it fills. -/
def PV (c : Dev nD) : Fin 3 → FVec F S1x512x128 .bf16
  | 0 => k0_pay13 (xe0 I c) (xe1 I c) (xe2 I c) (xe3 I c) (wcol (I c).ew 0 (pe c 0)) (wcol (I c).ew 1 (pe c 0)) (wcol (I c).ew 2 (pe c 0)) (wcol (I c).ew 3 (pe c 0))
  | 1 => k0_pay9 (xe0 I c) (xe1 I c) (xe2 I c) (xe3 I c) (wcol (I c).ew 0 (pe c 1)) (wcol (I c).ew 1 (pe c 1)) (wcol (I c).ew 2 (pe c 1)) (wcol (I c).ew 3 (pe c 1))
  | 2 => k0_pay12 (xe2 I c) (xe3 I c) (k0_pay10 (xe0 I c) (xe1 I c) (wcol (I c).ew 0 (pe c 2)) (wcol (I c).ew 1 (pe c 2))) (k0_pay11 (wcol (I c).ew 2 (pe c 2)))
      (constant S512x128 .f32 0x00000000#32) (wcol (I c).ew 3 (pe c 2))

theorem inb_half (h : Fin 2) : ∀ a, (![0, 256 * h.val, 0] : Fin 3 → ℕ) a + S1x256x128.size a ≤ S1x512x128.size a := by
  revert h; decide
/-- Half `h` of a slot's rows. -/
abbrev rectH (h : Fin 2) : Rect S1x512x128 := Rect.unit (s := S1x512x128) ![0, 256 * h.val, 0] S1x256x128.size (inb_half h)

/-- Half `h` of the partial sums of device `s` for the device whose slot `k` it fills. -/
def RV (s : Dev nD) (k : Fin 3) (h : Fin 2) : Vec F S1x256x128 .bf16 := fun y => PV I s k ((rectH h).emb y)
/-- The same, as the copy's block carries it. -/
def PX (s : Dev nD) (k : Fin 3) (h : Fin 2) : S256x128.Idx → Elt F .bf16 :=
  fun y => RV I s k h (Shape.reshapeEquiv squeezes_S1x256x128_S256x128.numel_eq y)

/-- Device `c`'s own share of its columns, from its first three experts. -/
def own3 (c : Dev nD) : FVec F S512x128 .f32 :=
  k0_pay14 (xe0 I c) (xe1 I c) (xe2 I c) (wcol (I c).ew 0 c) (wcol (I c).ew 1 c) (wcol (I c).ew 2 c)
/-- Device `c`'s own share of its columns, with the shared expert. -/
def own (c : Dev nD) : FVec F S512x128 .f32 := k0_pay15 (xs I c) (xe3 I c) (own3 I c) (wcol (I c).ew 3 c) (scol (I c).sw c)

/-- The block of results device `c` computes: half `h` of the rows, its columns. -/
def OUTX (c : Dev nD) : Fin 2 → Vec F S256x128 .bf16
  | 0 => k0_pay17 (k0_pay16 (xs I c) (xe3 I c) (own3 I c) (wcol (I c).ew 3 c) (scol (I c).sw c) (RV I (sr c 2) 2 0)) (RV I (sr c 0) 0 0) (RV I (sr c 1) 1 0)
  | 1 => k0_pay20 (k0_pay18 (own I c) (RV I (sr c 2) 2 1)) (k0_pay19 (RV I (sr c 0) 0 1)) (RV I (sr c 1) 1 1)

/-! ## The payloads -/

/-- Half `h` of receive slot `k`, holding anything. -/
def rsAny (c : Dev nD) (h : Fin 2) (k : Fin 3) : sProp 𝕄 := iprop(∃ X, ownsTc c (rsM h k) fullShare X)
/-- Result block (`h`, `s`), holding anything. -/
def outAny (c : Dev nD) (h : Fin 2) (s : Dev nD) : sProp 𝕄 := iprop(∃ X, ownsTc c (outM h s) fullShare X)

omit [FloatOps F] in
instance rsAny_storable (c : Dev nD) (h k) : BI.Storable (upEmb : UEmb _ 𝕄) (rsAny (F := F) c h k) := by unfold rsAny; infer_instance
omit [FloatOps F] in
instance outAny_storable (c : Dev nD) (h s) : BI.Storable (upEmb : UEmb _ 𝕄) (outAny (F := F) c h s) := by unfold outAny; infer_instance

/-- What device `s`'s signal to the device whose slot `k` it fills hands over: its own blocks that device's copies
    write — both halves of `s`'s receive slot named `k` by its writer, and both of the writer's result blocks. -/
def barPay (c : Dev nD) (d : Fin 3) : sProp 𝕄 :=
  iprop((rsAny (pe c d) 0 d ∗ rsAny (pe c d) 1 d) ∗ outAny (pe c d) 0 c ∗ outAny (pe c d) 1 c)

omit [FloatOps F] in
instance barPay_storable (c : Dev nD) (d) : BI.Storable (upEmb : UEmb _ 𝕄) (barPay (F := F) c d) := by unfold barPay; infer_instance

/-- The third of a result block that slot `k`'s copy reads. -/
abbrev third (k : Fin 3) : PosShare TreeShare := Ring.shares3 fullShare k

/-- What a copy's two semaphores hand over: a send its source back, an arrival the block written. -/
def dmaPay (c : Dev nD) : CI → sProp 𝕄
  | (0, h, k) => ownsTc c (partM h k) fullShare (PX I c k h)
  | (1, h, k) => ownsTc c (rsM h k) fullShare (PX I (sr c k) k h)
  | (2, h, k) => ownsTc c (outM h c) (third k) (OUTX I c h)
  | (3, h, k) => ownsTc c (outM h (sr c k)) fullShare (OUTX I (sr c k) h)

instance dmaPay_storable (c : Dev nD) (j) : BI.Storable (upEmb : UEmb _ 𝕄) (dmaPay (F := F) I c j) := by
  unfold dmaPay; (repeat' split) <;> infer_instance

/-! ## The schedule -/

abbrev IsBar (g : GSem nD τ sig) : Prop := g.1.2 = .tc ∧ g.2 = .reg barS

set_option backward.proofsInPublic true in
theorem osem_inj : Function.Injective osem := by
  intro a b hab
  have : ∀ x y : CI, dsem x.1 x.2.1 x.2.2 = dsem y.1 y.2.1 y.2.2 → x = y := by decide
  exact this a b (SemLoc.dma.inj hab)

theorem csem_inj : Function.Injective csem := by
  intro a b hab
  match a, b with
  | none, none => rfl
  | none, some _ => cases hab
  | some _, none => cases hab
  | some a, some b => exact congrArg some (osem_inj hab)

theorem kcell_inj : Function.Injective kcell := by
  rintro ⟨c, a⟩ ⟨c', b⟩ hab
  have h1 := congrArg Prod.fst hab
  have h2 := congrArg Prod.snd hab
  have hc : c = c' := congrArg Prod.fst h1
  have ha : a = b := csem_inj h2
  rw [hc, ha]

/-- The index of a cell's semaphore, when it is one of the exchange's. -/
def cix (s : SemLoc sig) : Option (Option CI) := if h : ∃ a, csem a = s then some h.choose else none

theorem cix_csem (a : Option CI) : cix (csem a) = some a := by
  unfold cix
  have h : ∃ b, csem b = csem a := ⟨a, rfl⟩
  rw [dif_pos h]; exact congrArg some (csem_inj h.choose_spec)

/-- A semaphore's duties, its duty's amount, what its duty hands over. -/
def dutOf : Option (Option CI) → Finset (Fin 3)
  | none => ∅
  | some none => Finset.univ
  | some (some _) => {0}
def amtOf : Option (Option CI) → ℕ
  | some none => 1
  | _ => N
def payOf (c : Dev nD) (d : Fin 3) : Option (Option CI) → sProp 𝕄
  | none => iprop(emp)
  | some none => barPay c d
  | some (some j) => dmaPay I c j

theorem amtOf_pos (o) : 0 < amtOf o := by
  unfold amtOf; split
  · exact Nat.one_pos
  · exact N_pos

instance payOf_storable (c : Dev nD) (d : Fin 3) (o) : BI.Storable (upEmb : UEmb _ 𝕄) (payOf (F := F) I c d o) := by
  unfold payOf; split <;> infer_instance

/-- One round. A device's barrier cell has three duties of one unit, one from each other device; an array's cell one
    duty, of a block's bytes. -/
def moeRd : Rounds.Schedule (GSem nD τ sig) (Fin 3) 𝕄 where
  duties g r := if r = 0 ∧ g.1.2 = .tc then dutOf (cix g.2) else ∅
  unitless _ := False
  amount g _ _ := amtOf (cix g.2)
  payload g _ d := payOf I g.1.1 d (cix g.2)
  amount_pos g _ _ _ := amtOf_pos _

instance moeRd_payload_storable (g : GSem nD τ sig) (r : ℕ) (d : Fin 3) :
    BI.Storable (upEmb : UEmb _ 𝕄) ((moeRd (F := F) I).payload g r d) := payOf_storable I g.1.1 d _

theorem cix_bar : cix (.reg barS) = some none := cix_csem none
theorem cix_dma (a : Fin 4) (h : Fin 2) (k : Fin 3) : cix (.dma (dsem a h k)) = some (some (a, h, k)) := cix_csem (some (a, h, k))

variable (c : Dev nD) (a : Fin 4) (h : Fin 2) (k : Fin 3)

theorem duties_bar : (moeRd I).duties (barCell c) 0 = Finset.univ := by
  dsimp only [moeRd]; rw [if_pos ⟨rfl, rfl⟩, cix_bar]; rfl
theorem duties_dma : (moeRd I).duties (dCell c a h k) 0 = {0} := by
  dsimp only [moeRd]; rw [if_pos ⟨rfl, rfl⟩, cix_dma]; rfl
theorem duties_later (g : GSem nD τ sig) : ∀ r, 1 ≤ r → (moeRd I).duties g r = ∅ :=
  fun r hr => by dsimp only [moeRd]; rw [if_neg fun h => by omega]
theorem amount_bar (d : Fin 3) : (moeRd I).amount (barCell c) 0 d = 1 := by dsimp only [moeRd]; rw [cix_bar]; rfl
theorem amount_dma (d : Fin 3) : (moeRd I).amount (dCell c a h k) 0 d = N := by dsimp only [moeRd]; rw [cix_dma]; rfl
theorem expect_bar : (moeRd I).expect (barCell c) 0 = 3 := by
  unfold Schedule.expect Schedule.amountOf
  rw [duties_bar, Finset.sum_congr rfl fun d _ => amount_bar I c d, Finset.sum_const, Finset.card_univ, Fintype.card_fin, smul_eq_mul]
theorem expect_dma : (moeRd I).expect (dCell c a h k) 0 = N := by
  unfold Schedule.expect Schedule.amountOf; rw [duties_dma, Finset.sum_singleton, amount_dma]
theorem payload_bar (d : Fin 3) : (moeRd I).payload (barCell c) 0 d = barPay c d := by dsimp only [moeRd]; rw [cix_bar]; rfl
theorem payload_dma (d : Fin 3) : (moeRd I).payload (dCell c a h k) 0 d = dmaPay I c (a, h, k) := by dsimp only [moeRd]; rw [cix_dma]; rfl

/-- A barrier cell's round is the three devices' payloads. -/
theorem rest_bar : bigSep ((moeRd I).duties (barCell c) 0 \ ∅) (fun d => (moeRd I).payload (barCell c) 0 d) = iprop(barPay (F := F) c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_dma : bigSep ((moeRd I).duties (dCell c a h k) 0 \ ∅) (fun d => (moeRd I).payload (dCell c a h k) 0 d) = dmaPay I c (a, h, k) := by
  rw [Finset.sdiff_empty, duties_dma, bigSep_singleton, payload_dma]

end Contents

/-! ## The debts a device starts with, and the levels -/

/-- Something a device owes: a signal, or the arrival of a block (results or partial sums; half; slot). -/
abbrev Item : Type := Fin 3 ⊕ (Bool × Fin 2 × Fin 3)

/-- The cell an item pays. -/
def icell (c : Dev nD) : Item → GSem nD τ sig
  | .inl d => barCell (sr c d)
  | .inr (false, h, k) => dCell (pe c k) 1 h k
  | .inr (true, h, k) => dCell (pe c k) 3 h k
def iamt : Item → ℕ
  | .inl _ => 1
  | .inr _ => N
/-- The debt of a list of items. -/
def debt (c : Dev nD) : List Item → CellTallies nD τ sig Unit
  | [] => 0
  | x :: l => debt c l + tallyAt (icell c x) () (iamt x)

/-- Everything a device owes, in the order it pays. -/
def items : List Item :=
  [.inl 0, .inl 1, .inl 2,
   .inr (false, 0, 1), .inr (false, 1, 1), .inr (false, 0, 2), .inr (false, 1, 2), .inr (false, 0, 0), .inr (false, 1, 0),
   .inr (true, 0, 1), .inr (true, 0, 2), .inr (true, 0, 0), .inr (true, 1, 1), .inr (true, 1, 2), .inr (true, 1, 0)]

def L (g : GSem nD τ sig) : Finset Unit := if g.1.2 = .tc then {()} else ∅
/-- Staging and sends at 0, barriers at 1, arrivals of partial sums at 2, of results at 3. -/
def lvOf : Option (Option CI) → ℕ
  | some none => 1
  | some (some (1, _, _)) => 2
  | some (some (3, _, _)) => 3
  | _ => 0
def lv (g : GSem nD τ sig) (_ : Unit) : ℕ := lvOf (cix g.2)

theorem L_of_ne (g : GSem nD τ sig) (h : g.1.2 ≠ .tc) : L g = ∅ := if_neg h
theorem L_tc (c : Dev nD) (sm : SemLoc sig) : L ((c : Thread nD τ), sm) = {()} := if_pos rfl

def ilev : Item → ℕ
  | .inl _ => 1
  | .inr (false, _, _) => 2
  | .inr (true, _, _) => 3

theorem icell_eq (c : Dev nD) (x : Item) : ∃ c' j, icell c x = kcell (c', j) ∧ lvOf (some j) = ilev x := by
  rcases x with d | ⟨b, h, k⟩
  · exact ⟨sr c d, none, rfl, rfl⟩
  · cases b
    · exact ⟨pe c k, some (1, h, k), rfl, rfl⟩
    · exact ⟨pe c k, some (3, h, k), rfl, rfl⟩

theorem debt_pos {c : Dev nD} {l : List Item} {g : GSem nD τ sig} {u : Unit} (h : 0 < debt c l g u) : ∃ x ∈ l, g = icell c x := by
  induction l with
  | nil => exact absurd h (Nat.lt_irrefl 0)
  | cons x l ih =>
    unfold debt at h
    rw [Pi.add_apply, Finsupp.add_apply, tallyAt_apply] at h
    by_cases hx : g = icell c x ∧ u = ()
    · exact ⟨x, List.mem_cons_self, hx.1⟩
    · rw [if_neg hx, Nat.add_zero] at h
      obtain ⟨y, hy, e⟩ := ih h
      exact ⟨y, List.mem_cons_of_mem _ hy, e⟩

omit [FloatOps F] in
/-- A device may wait at a cell whose level is below every debt it still has. -/
theorem mayWait_of (c : Dev nD) (s : SemLoc sig) (l : List Item) (n : ℕ) (hs : lvOf (cix s) = n) (hl : ∀ x ∈ l, n < ilev x) :
    (levAts L lv : sProp 𝕄) ⊢ MayWait (c : Thread nD τ) s () (debt c l) :=
  MayOwe.of_cut (L := L) (lev := lv) n (fun p hp => by rw [Finset.mem_singleton.mp hp, L_tc]; exact Finset.mem_singleton_self _)
    (fun g u hg => by
      obtain ⟨x, _, rfl⟩ := debt_pos hg
      obtain ⟨c', j, e, _⟩ := icell_eq c x
      rw [e, L_tc]; exact Finset.mem_singleton_self _)
    (fun p hp => by rw [Finset.mem_singleton.mp hp]; show lvOf (cix s) ≤ n; exact hs.le)
    (fun g u hg => by
      obtain ⟨x, hx, rfl⟩ := debt_pos hg
      obtain ⟨c', j, e, e'⟩ := icell_eq c x
      rw [e]; show n < lvOf (cix (csem j)); rw [cix_csem, e']; exact hl x hx)

end Cert.Moe
-- ==== Proof.Moe.Steps.lean ====
/-
  One rule per kind of step of the kernel, each at a symbolic device and block: a signal, the barrier wait, a copy to
  another device, a wait on a copy, loads and stores of a block.
-/
module

public import proofs.«01_k».proof.Proof.Moe.Sched

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (I : Dev nD → Ins F) (K : Dev nD × Option CI → ℕ)

/-! ## The ghost state, in the bundles the steps consume -/

/-- What every step may use: every cell's invariant, that every cell has reached its round, the levels. -/
def records : sProp 𝕄 :=
  iprop(bigSep Finset.univ (fun ck : Dev nD × Option CI => iprop(cellInv ER (moeRd I) (K ck) (kcell ck) ∗ reached ER (kcell ck) 0)) ∗ levAts L lv)

instance records_persistent : BI.Persistent (records I K) := by unfold records; infer_instance

theorem records_at (ck : Dev nD × Option CI) : records I K ⊢ iprop(cellInv ER (moeRd I) (K ck) (kcell ck) ∗ reached ER (kcell ck) 0) := by
  unfold records
  iintro ⟨H, -⟩
  have h : (bigSep Finset.univ fun ck : Dev nD × Option CI => (iprop(cellInv ER (moeRd I) (K ck) (kcell ck) ∗ reached ER (kcell ck) 0) : sProp 𝕄))
      ⊢ iprop(cellInv ER (moeRd I) (K ck) (kcell ck) ∗ reached ER (kcell ck) 0) := bigSep_elim (Finset.mem_univ ck)
  iapply h
  iexact H
theorem records_bar (c : Dev nD) : records I K ⊢ iprop(cellInv ER (moeRd I) (K (c, none)) (barCell c) ∗ reached ER (barCell c) 0) := records_at I K (c, none)
theorem records_dma (c : Dev nD) (a : Fin 4) (h : Fin 2) (k : Fin 3) :
    records I K ⊢ iprop(cellInv ER (moeRd I) (K (c, some (a, h, k))) (dCell c a h k) ∗ reached ER (dCell c a h k) 0) := records_at I K (c, some (a, h, k))
theorem records_lev : records I K ⊢ (levAts L lv : sProp 𝕄) := by
  unfold records; iintro ⟨-, H⟩; iexact H

/-- Device `c` owes the items of `l`. -/
def ow (c : Dev nD) (l : List Item) : sProp 𝕄 := iprop(∃ W, owes (c : Thread nD τ) (debt c l) W)
/-- A cell's position at the start, and the credit its wait spends. -/
def Wt (c : Dev nD) (a : Fin 4) (h : Fin 2) (k : Fin 3) : sProp 𝕄 :=
  iprop(cred (tallyAt (dCell c a h k) () N) ∗ atPos ER (dCell c a h k) 0 ∅ 0)
/-- What a copy needs besides its blocks: both semaphores' duties, and its send cell's position. -/
def Rdy (c : Dev nD) (a a' : Fin 4) (h : Fin 2) (k : Fin 3) : sProp 𝕄 :=
  iprop(dutyTok ER (dCell c a h k) 0 (0 : Fin 3) ∗ dutyTok ER (dCell (pe c k) a' h k) 0 (0 : Fin 3) ∗ atPos ER (dCell c a h k) 0 ∅ 0)
/-- A cell's counter at zero for good. -/
def Dn (c : Dev nD) (j : Option CI) : sProp 𝕄 := semVal (kcell (c, j)) 0

/-- The kernel's steps run on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Signals and the barrier wait -/

theorem step_signal (c n : Dev nD) (d : Fin 3) (hn : n = sr c d) (l : List Item)
    {α : Type} {Q : α → sProp 𝕄} {k : PUnit → Prog (TpuEff nD τ sig (Elt F) Λ₀ .tc) α} :
    iprop(records I K ∗ ow c (.inl d :: l) ∗ dutyTok ER (barCell (sr c d)) 0 d
        ∗ (rsAny c 0 d ∗ rsAny c 1 d) ∗ outAny c 0 (sr c d) ∗ outAny c 1 (sr c d))
      ⊢ iprop((ow c l -∗ wpc c (k ⟨⟩) Q) -∗ wpc c (.op (.semSignal (n, .tc) barS (BitVec.toInt 1#32)) k) Q) := by
  subst hn
  iintro ⟨#HR, HO, Ht, Hp⟩ Hk
  unfold ow
  icases HO with ⟨%W, HO⟩
  ihave H := (records_bar I K (sr c d)) $$ HR
  icases H with ⟨#Hi, #Hr⟩
  iapply (Rounds.wp_signal 𝒱₀ ER (moeRd I) (c : Thread nD τ) none (dst := (sr c d : Thread nD τ)) (κ := K (sr c d, none))
      (d := d) (by rw [duties_bar]; exact Finset.mem_univ _) ((amount_bar I (sr c d) d).trans (by decide)) () (debt c l) rfl)
    $$ [HO Ht Hp]
  · isplitr; · iexact Hi
    isplitl [HO]; · iexact HO
    isplitl [Ht]; · iexact Ht
    isplitl [Hp]
    · rw [payload_bar]; unfold barPay; rw [pe_sr]; iexact Hp
    iexact Hr
  iintro HO
  iapply Hk
  iexists W; iexact HO

theorem step_barrier (c : Dev nD) (l : List Item) (hl : ∀ x ∈ l, 1 < ilev x)
    {α : Type} {Q : α → sProp 𝕄} {k : PUnit → Prog (TpuEff nD τ sig (Elt F) Λ₀ .tc) α} :
    iprop(records I K ∗ ow c l ∗ cred (tallyAt (barCell c) () 3) ∗ atPos ER (barCell c) 0 ∅ 0)
      ⊢ iprop(((ow c l ∗ Dn c none ∗ barPay c 0 ∗ barPay c 1 ∗ barPay c 2) -∗ wpc c (k ⟨⟩) Q)
          -∗ wpc c (.op (.semWait barS (BitVec.toInt 3#32)) k) Q) := by
  iintro ⟨#HR, HO, Hc, Ha⟩ Hk
  unfold ow
  icases HO with ⟨%W, HO⟩
  ihave H := (records_bar I K c) $$ HR
  icases H with ⟨#Hi, #Hr⟩
  ihave #Hl := (records_lev I K) $$ HR
  iapply (Rounds.wp_wait_rest_token 𝒱₀ ER (moeRd I) (c : Thread nD τ) none (κ := K (c, none))
      (wpE_semWait_eq 𝒱₀ (c : Thread nD τ) none Set.univ) (Set.mem_univ _) () (O := debt c l) (W := W) (R := 0) (m := 0) (T := ∅)
      (by rw [expect_bar]; decide)) $$ [Hc HO Ha]
  · isplitr; · iexact Hi
    isplitl [Hc]; · iexact Hc
    isplitl [HO]; · iexact HO
    isplitr; · iapply (mayWait_of c (.reg barS) l 1 (by rw [cix_bar]; rfl) hl); iexact Hl
    iexact Ha
  iintro ⟨HO, Ha, -, Hp⟩
  ihave Hp := (Entails.of_eq (rest_bar I c)) $$ Hp
  imod (Rounds.cell_close ER (moeRd I) (Set.mem_univ (K (c, none))) (fun h => h) (R := 0 + 1) (duties_later I (barCell c))) $$ [Ha] with Hz
  · isplitr; · iexact Hi
    iexact Ha
  iapply Hk
  isplitl [HO]; · iexists _; iexact HO
  isplitl [Hz]; · unfold Dn; iexact Hz
  iexact Hp

/-! ## Copies -/

/-- A copy of a block to the device whose slot `k` this one fills. -/
theorem step_send (c n : Dev nD) (a a' : Fin 4) (h : Fin 2) (k : Fin 3) (it : Item) (l : List Item)
    (src dst src' dst' : Memref sig .tc .vmem S256x128 .bf16) (sS sR : DmaSem sig) (q : PosShare TreeShare) (X : S256x128.Idx → Elt F .bf16)
    (hn : n = pe c k) (hsrc' : src' = src) (hdst' : dst' = dst) (hS : sS = dsem a h k) (hR : sR = dsem a' h k)
    (hit : icell c it = dCell (pe c k) a' h k) (ham : iamt it = N) (hN : dst.view.dmaCredit = N)
    (hp₁ : dmaPay I c (a, h, k) = ownsTc c src q X) (hp₂ : dmaPay I (pe c k) (a', h, k) = ownsTc (pe c k) dst fullShare X)
    {hsc : (dst' : Memref sig (Dev.tc n : Thread nD τ).2.kind .vmem S256x128 .bf16).view.ref.isScScratch = false}
    {hsrc : src'.view.WordExact} {hdst : (dst' : Memref sig (Dev.tc n : Thread nD τ).2.kind .vmem S256x128 .bf16).view.WordExact}
    {hsem : DmaTarget.Typed .vmem (.dma sR) (.remote (Dev.tc n : Thread nD τ) (dst' : Memref sig (Dev.tc n : Thread nD τ).2.kind .vmem S256x128 .bf16) (.dma sS) hsc)}
    {α : Type} {Q : α → sProp 𝕄} {kk : PUnit → Prog (TpuEff nD τ sig (Elt F) Λ₀ .tc) α} :
    iprop(records I K ∗ Rdy c a a' h k ∗ ownsTc c src q X ∗ (∃ Y, ownsTc (pe c k) dst fullShare Y) ∗ ow c (it :: l))
      ⊢ iprop(((Wt c a h k ∗ ow c l) -∗ wpc c (kk ⟨⟩) Q)
          -∗ wpc c (.op (.enqueueDma src' (.remote (Dev.tc n : Thread nD τ) dst' (.dma sS) hsc) (.dma sR) hsrc hdst hsem) kk) Q) := by
  subst hn hsrc' hdst' hS hR
  iintro ⟨#HR, HRdy, Hs, Hd, HO⟩ Hk
  unfold ow Rdy
  icases HO with ⟨%W, HO⟩
  icases HRdy with ⟨Ht₁, Ht₂, Ha⟩
  icases Hd with ⟨%Y, Hd⟩
  unfold ownsTc owns
  icases Hs with ⟨%fs, %hfs, Hs⟩
  icases Hd with ⟨%fd, %hfd, Hd⟩
  ihave H := (records_dma I K c a h k) $$ HR
  icases H with ⟨#Hi₁, #Hr₁⟩
  ihave H := (records_dma I K (pe c k) a' h k) $$ HR
  icases H with ⟨#Hi₂, #Hr₂⟩
  iapply (Rounds.wp_send_pointsTo 𝒱₀ ER (moeRd I) (c : Thread nD τ) none (κ₁ := K (c, some (a, h, k))) (κ₂ := K (pe c k, some (a', h, k)))
    (r₁ := 0) (r₂ := 0) (d₁ := 0) (d₂ := 0) (fs := fs) (fd := fd) (c' := (pe c k : Thread nD τ)) (src := src') (dst := dst') (sS := .dma (dsem a h k)) (sem := .dma (dsem a' h k))
    (by rw [duties_dma I c a h k]; exact Finset.mem_singleton_self _) (by rw [duties_dma I (pe c k) a' h k]; exact Finset.mem_singleton_self _)
    () () N hN (amount_dma I c a h k 0) (amount_dma I (pe c k) a' h k 0) (debt c l) (by show debt c l + tallyAt (icell c it) () (iamt it) = _; rw [hit, ham]) (W := W)
    (by rw [payload_dma I c a h k, hp₁, ← hfs]; exact owns_intro _ _ _ _)
    (by rw [payload_dma I (pe c k) a' h k, hp₂, ← hfs]
        refine (owns_intro (pe c k : Thread nD τ) dst' fullShare _).trans (Entails.of_eq ?_)
        rw [View.read_write_univ])) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  unfold Wt
  isplitl [Hc Ha]
  · isplitl [Hc]; · iexact Hc
    iexact Ha
  iexists W; iexact HO

/-- A wait on a copy's semaphore: what its duty handed over, and the cell closed. -/
theorem step_wait (c : Dev nD) (a : Fin 4) (h : Fin 2) (k : Fin 3) (l : List Item) (sm : DmaSem sig)
    (src dst : Memref sig .tc .vmem S256x128 .bf16) (hsm : sm = dsem a h k) (hN : dst.view.dmaCredit = N)
    (hl : ∀ x ∈ l, lvOf (some (some (a, h, k))) < ilev x)
    {hsrc : src.view.WordExact} {hdst : dst.view.WordExact}
    {α : Type} {Q : α → sProp 𝕄} {kk : PUnit → Prog (TpuEff nD τ sig (Elt F) Λ₀ .tc) α} :
    iprop(records I K ∗ Wt c a h k ∗ ow c l)
      ⊢ iprop(((ow c l ∗ Dn c (some (a, h, k)) ∗ dmaPay I c (a, h, k)) -∗ wpc c (kk ⟨⟩) Q)
          -∗ wpc c (.op (.waitDma2 sm src dst hsrc hdst) kk) Q) := by
  subst hsm
  iintro ⟨#HR, HW, HO⟩ Hk
  unfold ow Wt
  icases HO with ⟨%W, HO⟩
  icases HW with ⟨Hc, Ha⟩
  ihave H := (records_dma I K c a h k) $$ HR
  icases H with ⟨#Hi, #Hr⟩
  ihave #Hl := (records_lev I K) $$ HR
  rw [← hN]
  iapply (Rounds.wp_wait_rest_token 𝒱₀ ER (moeRd I) (c : Thread nD τ) none (κ := K (c, some (a, h, k)))
      (wpE_waitDma2_eq 𝒱₀ (c : Thread nD τ) none Set.univ) (Set.mem_univ _) () (O := debt c l) (W := W) (R := 0) (m := 0) (T := ∅)
      (by rw [Nat.zero_add, expect_dma I c a h k, hN])) $$ [Hc HO Ha]
  · isplitr; · iexact Hi
    isplitl [Hc]; · iexact Hc
    isplitl [HO]; · iexact HO
    isplitr; · iapply (mayWait_of c (.dma (dsem a h k)) l _ (by rw [cix_dma]) hl); iexact Hl
    iexact Ha
  iintro ⟨HO, Ha, -, Hp⟩
  ihave Hp := (Entails.of_eq (rest_dma I c a h k)) $$ Hp
  imod (Rounds.cell_close ER (moeRd I) (Set.mem_univ (K (c, some (a, h, k)))) (fun h => h) (R := 0 + 1) (duties_later I (dCell c a h k))) $$ [Ha] with Hz
  · isplitr; · iexact Hi
    iexact Ha
  iapply Hk
  isplitl [HO]; · iexists _; iexact HO
  isplitl [Hz]; · unfold Dn; iexact Hz
  iexact Hp

/-! ## Loads and stores -/

/-- A load through a rectangle of which exactly the elements are held. -/
theorem step_load_blk (c : Dev nD) {s : Shape} {e : EltTy} (m : Memref sig .tc .vmem s e) (r : Rect s) (hr : ∀ a, r.stride a = 1) (q : PosShare TreeShare)
    (X : r.shape.Idx → Elt F e) {hl : m.view.LoadsAt r.toLoadRect}
    {α : Type} {Q : α → sProp 𝕄} {kk : (r.shape.Idx → Elt F e) → Prog (TpuEff nD τ sig (Elt F) Λ₀ .tc) α} :
    ownsTc c (m.slice r hr) q X
      ⊢ iprop((ownsTc c (m.slice r hr) q X -∗ wpc c (kk X) Q) -∗ wpc c (.op (.load m r.toLoadRect hl) kk) Q) := by
  unfold ownsTc owns
  iintro ⟨%f, %hf, H⟩ Hk
  iapply (wp_load_rect 𝒱₀ (c : Thread nD τ) none Set.univ (m := m) (r := r) (S := (m.slice r hr).view.set) (f := f) (Finset.Subset.refl _)) $$ H
  iintro H
  rw [show (m.access r).read (Elt F) f = X from hf]
  iapply Hk
  iexists f; isplitr
  · ipureintro; exact hf
  iexact H

/-- The same through the block's squeezed form, as its copies name it. -/
theorem step_load_sq (c : Dev nD) {s s' : Shape} {e : EltTy} (m : Memref sig .tc .vmem s e) (r : Rect s) (hr : ∀ a, r.stride a = 1) (hs : r.shape.Squeezes s') (q : PosShare TreeShare)
    (X : r.shape.Idx → Elt F e) {hl : m.view.LoadsAt r.toLoadRect}
    {α : Type} {Q : α → sProp 𝕄} {kk : (r.shape.Idx → Elt F e) → Prog (TpuEff nD τ sig (Elt F) Λ₀ .tc) α} :
    ownsTc c ((m.slice r hr).squeeze s' hs) q (fun y => X (Shape.reshapeEquiv hs.numel_eq y))
      ⊢ iprop((ownsTc c ((m.slice r hr).squeeze s' hs) q (fun y => X (Shape.reshapeEquiv hs.numel_eq y)) -∗ wpc c (kk X) Q) -∗ wpc c (.op (.load m r.toLoadRect hl) kk) Q) := by
  unfold ownsTc owns
  iintro ⟨%f, %hf, H⟩ Hk
  iapply (wp_load_rect 𝒱₀ (c : Thread nD τ) none Set.univ (m := m) (r := r) (S := ((m.slice r hr).squeeze s' hs).view.set) (f := f) (Finset.Subset.trans (Finset.Subset.refl _) (View.set_reshape (m.slice r hr).view hs.numel_eq).ge)) $$ H
  iintro H
  rw [show (m.access r).read (Elt F) f = X from by
    funext y
    have := congrFun hf ((Shape.reshapeEquiv hs.numel_eq).symm y)
    rw [Equiv.apply_symm_apply] at this
    rw [← this]
    show _ = (m.access r).read (Elt F) f (Shape.reshapeEquiv hs.numel_eq ((Shape.reshapeEquiv hs.numel_eq).symm y))
    rw [Equiv.apply_symm_apply]]
  iapply Hk
  iexists f; isplitr
  · ipureintro; exact hf
  iexact H

/-- A store through a rectangle of which exactly the elements are held. -/
theorem step_store_blk (c : Dev nD) {s : Shape} {e : EltTy} (m : Memref sig .tc .vmem s e) (r : Rect s) (hr : ∀ a, r.stride a = 1)
    (X w : r.shape.Idx → Elt F e) {hx : (m.access r).Stores Finset.univ} {hm : Finset.univ = Finset.univ ∨ ∀ a, r.stride a = 1}
    {α : Type} {Q : α → sProp 𝕄} {kk : PUnit → Prog (TpuEff nD τ sig (Elt F) Λ₀ .tc) α} :
    ownsTc c (m.slice r hr) fullShare X
      ⊢ iprop((ownsTc c (m.slice r hr) fullShare w -∗ wpc c (kk ⟨⟩) Q) -∗ wpc c (.op (.store m r w Finset.univ hx hm) kk) Q) := by
  unfold ownsTc owns
  iintro ⟨%f, %hf, H⟩ Hk
  iapply (wp_store 𝒱₀ (c : Thread nD τ) none Set.univ (m := m) (r := r) (Mk := Finset.univ) (S := (m.slice r hr).view.set) (f := f) (Finset.Subset.refl _)) $$ H
  iintro H
  iapply Hk
  iexists _; isplitr
  · ipureintro; exact View.read_write_univ (v := m.access r) (Val := Elt F) f w
  iexact H

end Cert.Moe
-- ==== Proof.Moe.Bufs.lean ====
/-
  The kernel's buffers, cut into the blocks the exchange moves and put together again.
-/
module

public import Idealize.ShloMosaic.Lib.StableHlo.CollectiveRules
public import proofs.«01_k».proof.Proof.Moe.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rectangles -/

theorem rect_disjoint_sets {s : Shape} {T : Type} (r : T → Rect s) (hd : ∀ t t', t ≠ t' → Disjoint (r t).set (r t').set)
    {t t' : T} {j : (r t).shape.Idx} {j' : (r t').shape.Idx} (h : (r t).emb j = (r t').emb j') : t = t' := by
  by_contra hne
  have h₁ : (r t).emb j ∈ (r t).set := by rw [← Rect.map_emb_univ]; exact Finset.mem_map_of_mem _ (Finset.mem_univ _)
  have h₂ : (r t).emb j ∈ (r t').set := by rw [h, ← Rect.map_emb_univ]; exact Finset.mem_map_of_mem _ (Finset.mem_univ _)
  exact Finset.disjoint_left.mp (hd t t' hne) h₁ h₂

/-- Contents given on disjoint rectangles that cover a shape are one function's. -/
theorem exists_glue {s : Shape} {A : Type} {T : Type} [Fintype T] (r : T → Rect s) (hd : ∀ t t', t ≠ t' → Disjoint (r t).set (r t').set)
    (hcov : (Finset.univ : Finset T).biUnion (fun t => (r t).set) = Finset.univ)
    (Xs : (t : T) → (r t).shape.Idx → A) : ∃ X : s.Idx → A, ∀ t j, X ((r t).emb j) = Xs t j := by
  classical
  have key : ∀ t j t' j', (r t).emb j = (r t').emb j' → Xs t j = Xs t' j' := by
    intro t j t' j' h
    obtain rfl := rect_disjoint_sets r hd h
    rw [(r t).emb.injective h]
  have hex : ∀ i : s.Idx, ∃ t j, (r t).emb j = i := fun i => by
    have h : i ∈ (Finset.univ : Finset T).biUnion (fun t => (r t).set) := by rw [hcov]; exact Finset.mem_univ i
    obtain ⟨t, -, h⟩ := Finset.mem_biUnion.mp h
    rw [← Rect.map_emb_univ] at h
    obtain ⟨j, -, h⟩ := Finset.mem_map.mp h
    exact ⟨t, j, h⟩
  exact ⟨fun i => Xs (hex i).choose (hex i).choose_spec.choose, fun t j => key _ _ _ _ (hex ((r t).emb j)).choose_spec.choose_spec⟩

abbrev HK : Type := Fin 2 × Fin 3
abbrev HS : Type := Fin 2 × Dev nD

theorem rectS_disj : ∀ t t' : HK, t ≠ t' → Disjoint (rectS t.2 t.1).set (rectS t'.2 t'.1).set := by
  rintro ⟨h, k⟩ ⟨h', k'⟩ hne
  by_cases hk : k = k'
  · have hh : h ≠ h' := fun e => hne (by rw [e, hk])
    refine Rect.unit_disjoint (1 : Fin 3) ?_
    have := Fin.val_ne_of_ne hh
    show 256 * h.val + 256 ≤ 256 * h'.val ∨ 256 * h'.val + 256 ≤ 256 * h.val; omega
  · refine Rect.unit_disjoint (0 : Fin 3) ?_
    have := Fin.val_ne_of_ne hk
    show k.val + 1 ≤ k'.val ∨ k'.val + 1 ≤ k.val; omega

theorem rectS_cov : (Finset.univ : Finset HK).biUnion (fun t => (rectS t.2 t.1).set) = Finset.univ := by
  ext i
  simp only [Finset.mem_biUnion, Finset.mem_univ, true_and, iff_true]
  have h1 : (i 1).val < 512 := (i 1).isLt
  have h2 : (i 2).val < 128 := (i 2).isLt
  refine ⟨(⟨(i 1).val / 256, by omega⟩, ⟨(i 0).val, (i 0).isLt⟩), Rect.mem_set_unit.mpr fun a => ?_⟩
  match a with
  | ⟨0, _⟩ => exact ⟨le_refl (i 0).val, Nat.lt_succ_self (i 0).val⟩
  | ⟨1, _⟩ => show 256 * ((i 1).val / 256) ≤ (i 1).val ∧ (i 1).val < 256 * ((i 1).val / 256) + 256; omega
  | ⟨2, _⟩ => exact ⟨Nat.zero_le _, by show (i 2).val < 0 + 128; omega⟩

theorem rectO_disj : ∀ t t' : HS, t ≠ t' → Disjoint (rectO t.1 t.2).set (rectO t'.1 t'.2).set := by
  rintro ⟨h, k⟩ ⟨h', k'⟩ hne
  by_cases hk : k = k'
  · have hh : h ≠ h' := fun e => hne (by rw [e, hk])
    refine Rect.unit_disjoint (0 : Fin 2) ?_
    have := Fin.val_ne_of_ne hh
    show 256 * h.val + 256 ≤ 256 * h'.val ∨ 256 * h'.val + 256 ≤ 256 * h.val; omega
  · refine Rect.unit_disjoint (1 : Fin 2) ?_
    have := Fin.val_ne_of_ne hk
    show 128 * k.val + 128 ≤ 128 * k'.val ∨ 128 * k'.val + 128 ≤ 128 * k.val; omega

theorem rectO_cov : (Finset.univ : Finset HS).biUnion (fun t => (rectO t.1 t.2).set) = Finset.univ := by
  ext i
  simp only [Finset.mem_biUnion, Finset.mem_univ, true_and, iff_true]
  have h0 : (i 0).val < 512 := (i 0).isLt
  have h1 : (i 1).val < 512 := (i 1).isLt
  refine ⟨(⟨(i 0).val / 256, by omega⟩, ⟨(i 1).val / 128, by show (i 1).val / 128 < 4; omega⟩), Rect.mem_set_unit.mpr fun a => ?_⟩
  match a with
  | ⟨0, _⟩ => show 256 * ((i 0).val / 256) ≤ (i 0).val ∧ (i 0).val < 256 * ((i 0).val / 256) + 256; omega
  | ⟨1, _⟩ => show 128 * ((i 1).val / 128) ≤ (i 1).val ∧ (i 1).val < 128 * ((i 1).val / 128) + 128; omega

theorem inb_rectP (i : Fin 3) : ∀ a, (![i.val, 0, 0] : Fin 3 → ℕ) a + S1x512x128.size a ≤ S3x512x128.size a := by
  revert i; decide
/-- Slot `i` of a `3 × 512 × 128` buffer. -/
abbrev rectP (i : Fin 3) : Rect S3x512x128 := Rect.unit (s := S3x512x128) ![i.val, 0, 0] S1x512x128.size (inb_rectP i)

theorem rectP_disj : ∀ t t' : Fin 3, t ≠ t' → Disjoint (rectP t).set (rectP t').set := by
  intro t t' hne
  refine Rect.unit_disjoint (0 : Fin 3) ?_
  revert t t'; decide

theorem rectP_cov : (Finset.univ : Finset (Fin 3)).biUnion (fun t => (rectP t).set) = Finset.univ := by
  ext i
  simp only [Finset.mem_biUnion, Finset.mem_univ, true_and, iff_true]
  have h1 : (i 1).val < 512 := (i 1).isLt
  have h2 : (i 2).val < 128 := (i 2).isLt
  refine ⟨⟨(i 0).val, (i 0).isLt⟩, Rect.mem_set_unit.mpr fun a => ?_⟩
  match a with
  | ⟨0, _⟩ => exact ⟨le_refl (i 0).val, Nat.lt_succ_self (i 0).val⟩
  | ⟨1, _⟩ => exact ⟨Nat.zero_le _, by show (i 1).val < 0 + 512; omega⟩
  | ⟨2, _⟩ => exact ⟨Nat.zero_le _, by show (i 2).val < 0 + 128; omega⟩

theorem rectH_disj : ∀ t t' : Fin 2, t ≠ t' → Disjoint (rectH t).set (rectH t').set := by
  intro t t' hne
  refine Rect.unit_disjoint (1 : Fin 3) ?_
  revert t t'; decide

theorem rectH_cov : (Finset.univ : Finset (Fin 2)).biUnion (fun t => (rectH t).set) = Finset.univ := by
  ext i
  simp only [Finset.mem_biUnion, Finset.mem_univ, true_and, iff_true]
  have h0 : (i 0).val < 1 := (i 0).isLt
  have h1 : (i 1).val < 512 := (i 1).isLt
  have h2 : (i 2).val < 128 := (i 2).isLt
  refine ⟨⟨(i 1).val / 256, by omega⟩, Rect.mem_set_unit.mpr fun a => ?_⟩
  match a with
  | ⟨0, _⟩ => exact ⟨Nat.zero_le _, by show (i 0).val < 0 + 1; omega⟩
  | ⟨1, _⟩ => show 256 * ((i 1).val / 256) ≤ (i 1).val ∧ (i 1).val < 256 * ((i 1).val / 256) + 256; omega
  | ⟨2, _⟩ => exact ⟨Nat.zero_le _, by show (i 2).val < 0 + 128; omega⟩

/-- Half `h` of slot `i` is half `h`'s rectangle of the whole. -/
theorem rectP_rectH (i : Fin 3) (h : Fin 2) (j : (rectH h).shape.Idx) : (rectP i).emb ((rectH h).emb j) = (rectS i h).emb j := by
  funext a
  apply Fin.ext
  match a with
  | ⟨0, _⟩ => show i.val + 1 * (0 + 1 * (j 0).val) = i.val + 1 * (j 0).val; omega
  | ⟨1, _⟩ => show 0 + 1 * (256 * h.val + 1 * (j 1).val) = 256 * h.val + 1 * (j 1).val; omega
  | ⟨2, _⟩ => show 0 + 1 * (0 + 1 * (j 2).val) = 0 + 1 * (j 2).val; omega

/-! ## Squeezing a block -/

omit [FloatOps F] in
theorem owns_squeeze (c : Dev nD) {s s' : Shape} {e : EltTy} (m : Memref sig .tc .vmem s e) (hs : s.Squeezes s') (q : PosShare TreeShare) (X : s.Idx → Elt F e) :
    (ownsTc c (m.squeeze s' hs) q (fun y => X (Shape.reshapeEquiv hs.numel_eq y)) : sProp 𝕄) = ownsTc c m q X := by
  have hset : (m.squeeze s' hs).view.set = m.view.set := View.set_reshape m.view hs.numel_eq
  have hread (f : m.view.ty.Contents (Elt F)) : (m.squeeze s' hs).view.read (Elt F) f = (fun y => X (Shape.reshapeEquiv hs.numel_eq y)) ↔ m.view.read (Elt F) f = X := by
    constructor
    · intro h; funext y
      have := congrFun h ((Shape.reshapeEquiv hs.numel_eq).symm y)
      rw [Equiv.apply_symm_apply] at this
      rw [← this]
      show _ = m.view.read (Elt F) f (Shape.reshapeEquiv hs.numel_eq ((Shape.reshapeEquiv hs.numel_eq).symm y))
      rw [Equiv.apply_symm_apply]
    · intro h; rw [← h]; rfl
  have h₁ : (ownsTc c (m.squeeze s' hs) q (fun y => X (Shape.reshapeEquiv hs.numel_eq y)) : sProp 𝕄) ⊢ ownsTc c m q X := by
    unfold ownsTc owns
    iintro ⟨%f, %hf, H⟩
    iexists f; isplitr
    · ipureintro; exact (hread f).mp hf
    · iapply (Entails.of_eq (congrArg (fun S => (m.view.loc (c : Thread nD τ) ↦[S]{q} f : sProp 𝕄)) hset)); iexact H
  have h₂ : (ownsTc c m q X : sProp 𝕄) ⊢ ownsTc c (m.squeeze s' hs) q (fun y => X (Shape.reshapeEquiv hs.numel_eq y)) := by
    unfold ownsTc owns
    iintro ⟨%f, %hf, H⟩
    iexists f; isplitr
    · ipureintro; exact (hread f).mpr hf
    · iapply (Entails.of_eq (congrArg (fun S => (m.view.loc (c : Thread nD τ) ↦[S]{q} f : sProp 𝕄)) hset.symm)); iexact H
  exact BI.equiv_iff.mp ⟨h₁, h₂⟩

omit [FloatOps F] in
/-- A squeezed block holding anything is the block holding something. -/
theorem owns_squeeze_any (c : Dev nD) {s s' : Shape} {e : EltTy} (m : Memref sig .tc .vmem s e) (hs : s.Squeezes s') (q : PosShare TreeShare) (Y : s'.Idx → Elt F e) :
    (ownsTc c (m.squeeze s' hs) q Y : sProp 𝕄) = ownsTc c m q (fun j => Y ((Shape.reshapeEquiv hs.numel_eq).symm j)) := by
  rw [← owns_squeeze c m hs]
  congr 1; funext y; rw [Equiv.symm_apply_apply]

/-! ## The partial sums' buffer -/

abbrev scr0 : Memref sig .tc .vmem S3x512x128 .bf16 := Memref.whole cc0_scratch0
abbrev scr1 : Memref sig .tc .vmem S3x512x128 .bf16 := Memref.whole cc0_scratch1
abbrev stg5 : Memref sig .tc .vmem S512x512 .bf16 := Memref.whole cc0_stg5_0
/-- The slot of the partial sums `k`'s copies are taken from. -/
abbrev slotM (k : Fin 3) : Memref sig .tc .vmem S1x512x128 .bf16 := scr0.slice (rectP (ps k)) (fun _ => rfl)

/-- A slot of partial sums, held: its two halves, as the copies name them. -/
theorem slot_split (c : Dev nD) (k : Fin 3) (w : S1x512x128.Idx → Elt F .bf16) :
    ownsTc c (slotM k) fullShare w
      ⊢ (iprop(ownsTc c (partM 0 k) fullShare (fun y => w ((rectH 0).emb (Shape.reshapeEquiv squeezes_S1x256x128_S256x128.numel_eq y)))
          ∗ ownsTc c (partM 1 k) fullShare (fun y => w ((rectH 1).emb (Shape.reshapeEquiv squeezes_S1x256x128_S256x128.numel_eq y)))) : sProp 𝕄) := by
  have h1 (h : Fin 2) : (ownsTc c ((slotM k).slice (rectH h) (fun _ => rfl)) fullShare (fun j => w ((rectH h).emb j)) : sProp 𝕄)
      ⊢ ownsTc c (partM h k) fullShare (fun y => w ((rectH h).emb (Shape.reshapeEquiv squeezes_S1x256x128_S256x128.numel_eq y))) := by
    refine BIBase.Entails.trans ?_ (Entails.of_eq (owns_squeeze c (scr0.slice (rectS (ps k) h) (fun _ => rfl)) squeezes_S1x256x128_S256x128 fullShare (fun j => w ((rectH h).emb j))).symm)
    have hset : ((slotM k).slice (rectH h) (fun _ => rfl)).view.set = (scr0.slice (rectS (ps k) h) (fun _ => rfl)).view.set := by
      ext i
      simp only [View.set, Finset.mem_map, Finset.mem_univ, true_and]
      exact exists_congr fun j => by
        show (rectP (ps k)).emb ((rectH h).emb j) = i ↔ (rectS (ps k) h).emb j = i
        rw [rectP_rectH]
    unfold ownsTc owns
    iintro ⟨%f, %hf, H⟩
    iexists f; isplitr
    · ipureintro
      refine Eq.trans ?_ hf
      funext j
      show f ((rectS (ps k) h).emb j) = f ((rectP (ps k)).emb ((rectH h).emb j))
      rw [rectP_rectH]
    · iapply (Entails.of_eq (congrArg (fun S => (scr0.view.loc (c : Thread nD τ) ↦[S]{fullShare} f : sProp 𝕄)) hset)); iexact H
  refine BIBase.Entails.trans (owns_rects (c : Thread nD τ) (slotM k) fullShare rectH (fun _ _ => rfl) rectH_disj rectH_cov w) ?_
  rw [bigSep_univ_eq_bigSepL [0, 1] (by decide) (by decide), bigSepL_cons_cons, bigSepL_singleton]
  exact BIClass.sep_mono (h1 0) (h1 1)

/-- The whole of the partial sums' buffer is its three slots. -/
theorem scr0_split (c : Dev nD) (f : S3x512x128.Idx → Elt F .bf16) :
    ownsTc c scr0 fullShare f ⊢ (iprop((∃ X, ownsTc c (slotM 0) fullShare X) ∗ (∃ X, ownsTc c (slotM 1) fullShare X) ∗ (∃ X, ownsTc c (slotM 2) fullShare X)) : sProp 𝕄) := by
  refine BIBase.Entails.trans (owns_rects (c : Thread nD τ) scr0 fullShare rectP (fun _ _ => rfl) rectP_disj rectP_cov f) ?_
  rw [bigSep_univ_eq_bigSepL [2, 1, 0] (by decide) (by decide), bigSepL_cons_cons, bigSepL_cons_cons, bigSepL_singleton]
  show iprop(ownsTc c (slotM 0) fullShare (fun j => f ((rectP 2).emb j)) ∗ ownsTc c (slotM 1) fullShare (fun j => f ((rectP 1).emb j)) ∗ ownsTc c (slotM 2) fullShare (fun j => f ((rectP 0).emb j))) ⊢ _
  iintro ⟨H0, H1, H2⟩
  isplitl [H0]
  · iexists _; iexact H0
  · isplitl [H1]
    · iexists _; iexact H1
    · iexists _; iexact H2

/-- The six half slots held, whatever is in them: the whole buffer. -/
theorem six_join (c : Dev nD) (m : Memref sig .tc .vmem S3x512x128 .bf16) (Xs : HK → S256x128.Idx → Elt F .bf16) :
    (iprop(bigSep Finset.univ fun t : HK => ownsTc c ((m.slice (rectS t.2 t.1) (fun _ => rfl)).squeeze S256x128 squeezes_S1x256x128_S256x128) fullShare (Xs t)) : sProp 𝕄)
      ⊢ iprop(∃ X, ownsTc c m fullShare X) := by
  iintro H
  obtain ⟨X, hX⟩ := exists_glue (A := Elt F .bf16) (fun t : HK => rectS t.2 t.1) rectS_disj rectS_cov (fun t j => Xs t ((Shape.reshapeEquiv squeezes_S1x256x128_S256x128.numel_eq).symm j))
  iexists X
  iapply (owns_of_rects (c : Thread nD τ) m fullShare (fun t : HK => rectS t.2 t.1) (fun _ _ => rfl) rectS_disj rectS_cov X)
  iapply (Entails.of_eq (bigSep_congr fun t (_ : t ∈ Finset.univ) => by rw [owns_squeeze_any, show (fun j => X ((rectS t.2 t.1).emb j)) = _ from funext (hX t)]) :
    (bigSep Finset.univ fun t : HK => (ownsTc c ((m.slice (rectS t.2 t.1) (fun _ => rfl)).squeeze S256x128 squeezes_S1x256x128_S256x128) fullShare (Xs t) : sProp 𝕄)) ⊢ bigSep Finset.univ fun t : HK => ownsTc c (m.slice (rectS t.2 t.1) (fun _ => rfl)) fullShare (fun j => X ((rectS t.2 t.1).emb j)))
  iexact H

/-- The whole buffer held: its six half slots. -/
theorem six_split (c : Dev nD) (m : Memref sig .tc .vmem S3x512x128 .bf16) (X : S3x512x128.Idx → Elt F .bf16) :
    (ownsTc c m fullShare X : sProp 𝕄) ⊢ bigSep Finset.univ fun t : HK => iprop(∃ Y, ownsTc c ((m.slice (rectS t.2 t.1) (fun _ => rfl)).squeeze S256x128 squeezes_S1x256x128_S256x128) fullShare Y) := by
  refine BIBase.Entails.trans (owns_rects (c : Thread nD τ) m fullShare (fun t : HK => rectS t.2 t.1) (fun _ _ => rfl) rectS_disj rectS_cov X) ?_
  refine bigSep_mono fun t _ => ?_
  show (ownsTc c (m.slice (rectS t.2 t.1) (fun _ => rfl)) fullShare (fun j => X ((rectS t.2 t.1).emb j)) : sProp 𝕄) ⊢ _
  rw [← owns_squeeze c (m.slice (rectS t.2 t.1) (fun _ => rfl)) squeezes_S1x256x128_S256x128]
  iintro H; iexists _; iexact H

/-! ## The result -/

/-- Block `(h, s)` of the result, in the whole. -/
def outV (O : Dev nD → Fin 2 → S256x128.Idx → Elt F .bf16) : S512x512.Idx → Elt F .bf16 := fun i =>
  O ⟨(i 1).val / 128, by have h : (i 1).val < 512 := (i 1).isLt; show (i 1).val / 128 < 4; omega⟩
    ⟨(i 0).val / 256, by have h : (i 0).val < 512 := (i 0).isLt; omega⟩
    (fun a => match a with
      | ⟨0, _⟩ => ⟨(i 0).val % 256, Nat.mod_lt _ (by decide)⟩
      | ⟨1, _⟩ => ⟨(i 1).val % 128, Nat.mod_lt _ (by decide)⟩)

theorem outV_emb (O : Dev nD → Fin 2 → S256x128.Idx → Elt F .bf16) (h : Fin 2) (s : Dev nD) (j : (rectO h s).shape.Idx) :
    outV O ((rectO h s).emb j) = O s h j := by
  have h0 : (j 0).val < 256 := (j 0).isLt
  have h1 : (j 1).val < 128 := (j 1).isLt
  have e0 : (((rectO h s).emb j) 0).val = 256 * h.val + (j 0).val := by show 256 * h.val + 1 * (j 0).val = _; omega
  have e1 : (((rectO h s).emb j) 1).val = 128 * s.val + (j 1).val := by show 128 * s.val + 1 * (j 1).val = _; omega
  have hs : ∀ (s' : Dev nD) (h' : Fin 2) (j' : S256x128.Idx), s' = s → h' = h → j' = j → O s' h' j' = O s h j := by
    rintro _ _ _ rfl rfl rfl; rfl
  refine hs _ _ _ (Fin.ext ?_) (Fin.ext ?_) (funext fun a => Fin.ext ?_)
  · show (((rectO h s).emb j) 1).val / 128 = s.val; omega
  · show (((rectO h s).emb j) 0).val / 256 = h.val; omega
  · match a with
    | ⟨0, _⟩ => show (((rectO h s).emb j) 0).val % 256 = (j 0).val; omega
    | ⟨1, _⟩ => show (((rectO h s).emb j) 1).val % 128 = (j 1).val; omega

theorem out_join (c : Dev nD) (O : Dev nD → Fin 2 → S256x128.Idx → Elt F .bf16) :
    (iprop(bigSep Finset.univ fun t : HS => ownsTc c (outM t.1 t.2) fullShare (O t.2 t.1)) : sProp 𝕄) ⊢ ownsTc c stg5 fullShare (outV O) := by
  iintro H
  iapply (owns_of_rects (c : Thread nD τ) stg5 fullShare (fun t : HS => rectO t.1 t.2) (fun _ _ => rfl) rectO_disj rectO_cov (outV O))
  iapply (Entails.of_eq (bigSep_congr fun t (_ : t ∈ Finset.univ) => by rw [show (fun j => outV O ((rectO t.1 t.2).emb j)) = O t.2 t.1 from funext (outV_emb O t.1 t.2)]) :
    (bigSep Finset.univ fun t : HS => (ownsTc c (outM t.1 t.2) fullShare (O t.2 t.1) : sProp 𝕄)) ⊢ bigSep Finset.univ fun t : HS => ownsTc c (stg5.slice (rectO t.1 t.2) (fun _ => rfl)) fullShare (fun j => outV O ((rectO t.1 t.2).emb j)))
  iexact H

theorem out_split (c : Dev nD) (X : S512x512.Idx → Elt F .bf16) :
    (ownsTc c stg5 fullShare X : sProp 𝕄) ⊢ bigSep Finset.univ fun t : HS => iprop(∃ Y, ownsTc c (outM t.1 t.2) fullShare Y) := by
  refine BIBase.Entails.trans (owns_rects (c : Thread nD τ) stg5 fullShare (fun t : HS => rectO t.1 t.2) (fun _ _ => rfl) rectO_disj rectO_cov X) ?_
  refine bigSep_mono fun t _ => ?_
  show (ownsTc c (outM t.1 t.2) fullShare (fun j => X ((rectO t.1 t.2).emb j)) : sProp 𝕄) ⊢ iprop(∃ Y, ownsTc c (outM t.1 t.2) fullShare Y)
  iintro H; iexists _; iexact H

theorem hk_list (P : HK → sProp 𝕄) : bigSep Finset.univ P = bigSepL [(0, 0), (1, 0), (0, 1), (1, 1), (0, 2), (1, 2)] P :=
  bigSep_univ_eq_bigSepL [(0, 0), (1, 0), (0, 1), (1, 1), (0, 2), (1, 2)] (by decide) (by decide) P
theorem hs_list (c : Dev nD) (P : HS → sProp 𝕄) : bigSep Finset.univ P = bigSepL [(0, c), (1, c), (0, sr c 0), (1, sr c 0), (0, sr c 1), (1, sr c 1), (0, sr c 2), (1, sr c 2)] P :=
  bigSep_univ_eq_bigSepL [(0, c), (1, c), (0, sr c 0), (1, sr c 0), (0, sr c 1), (1, sr c 1), (0, sr c 2), (1, sr c 2)] (by revert c; decide) (by revert c; decide) P

/-! ## Thirds -/

omit [FloatOps F] in
theorem owns_thirds (c : Dev nD) {s : Shape} {e : EltTy} (m : Memref sig .tc .vmem s e) (X : s.Idx → Elt F e) :
    (ownsTc c m fullShare X : sProp 𝕄) ⊣⊢ iprop(ownsTc c m (third 0) X ∗ ownsTc c m (third 1) X ∗ ownsTc c m (third 2) X) :=
  ⟨((owns_share (c : Thread nD τ) m (PosShare.mem_left_op_right fullShare) X).1).trans
      (BIClass.sep_mono (BIBase.Entails.rfl) (owns_share (c : Thread nD τ) m (PosShare.mem_left_op_right fullShare.right) X).1),
    BIBase.Entails.trans (BIClass.sep_mono (BIBase.Entails.rfl) (owns_share (c : Thread nD τ) m (PosShare.mem_left_op_right fullShare.right) X).2)
      (owns_share (c : Thread nD τ) m (PosShare.mem_left_op_right fullShare) X).2⟩

end Cert.Moe
-- ==== Proof.Moe.Parts1.lean ====
/-
  The kernel's run on one device, part by part: up to the first copies.
-/
module

public import proofs.«01_k».proof.Proof.Moe.Bufs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Option CI → ℕ)

abbrev stg0 : Memref sig .tc .vmem S512x256 .bf16 := Memref.whole cc0_stg0_0
abbrev stg1 : Memref sig .tc .vmem S256x16 .bf16 := Memref.whole cc0_stg1_0
abbrev stg2 : Memref sig .tc .vmem S512x1 .i32 := Memref.whole cc0_stg2_0
abbrev stg3 : Memref sig .tc .vmem S4x256x512 .bf16 := Memref.whole cc0_stg3_0
abbrev stg4 : Memref sig .tc .vmem S256x512 .bf16 := Memref.whole cc0_stg4_0

/-! ## Loads of the inputs -/

omit [FloatOps F] in
theorem emb_zero {s : Shape} {off : Fin s.rank → ℕ} (h0 : ∀ a, off a = 0) (inb : ∀ a, off a + s.size a ≤ s.size a) {e : EltTy} (X : s.Idx → Elt F e) :
    (fun y => X ((Rect.unit (s := s) off s.size inb).emb y)) = X := by
  funext y
  congr 1; funext a; apply Fin.ext
  show off a + 1 * (y a).val = (y a).val
  rw [h0]; omega

omit [FloatOps F] in
theorem wcol_at (ew : Vec F S4x256x512 .bf16) (le : Fin 4) (o : Dev nD) {off : Fin 3 → ℕ} (h : off = ![le.val, 0, 128 * o.val]) (inb : ∀ a, off a + S1x256x128.size a ≤ S4x256x512.size a) :
    (fun y => ew ((Rect.unit (s := S4x256x512) off S1x256x128.size inb).emb y)) = wcol ew le o := by
  subst h; rfl
omit [FloatOps F] in
theorem scol_at (sw : Vec F S256x512 .bf16) (o : Dev nD) {off : Fin 2 → ℕ} (h : off = ![0, 128 * o.val]) (inb : ∀ a, off a + S256x128.size a ≤ S256x512.size a) :
    (fun y => sw ((Rect.unit (s := S256x512) off S256x128.size inb).emb y)) = scol sw o := by
  subst h; rfl

/-- A load from a buffer held at contents `X`. -/
theorem step_load_at (c : Dev nD) {s : Shape} {e : EltTy} (m : Memref sig .tc .vmem s e) (r : Rect s) (q : PosShare TreeShare) (X : s.Idx → Elt F e)
    (v : r.shape.Idx → Elt F e) (hv : (fun y => X (r.emb y)) = v) {hl : m.view.LoadsAt r.toLoadRect}
    {α : Type} {Q : α → sProp 𝕄} {kk : (r.shape.Idx → Elt F e) → Prog (TpuEff nD τ sig (Elt F) Λ₀ .tc) α} :
    ownsTc c m q X
      ⊢ iprop((ownsTc c m q X -∗ wpc c (kk v) Q) -∗ wpc c (.op (.load m r.toLoadRect hl) kk) Q) := by
  unfold ownsTc owns
  iintro ⟨%f, %hf, H⟩ Hk
  iapply (wp_load_rect 𝒱₀ (c : Thread nD τ) none Set.univ (m := m) (r := r) (S := m.view.set) (f := f) (View.set_slice_subset m.view r)) $$ H
  iintro H
  rw [show (m.access r).read (Elt F) f = v from by rw [← hv, ← hf]; rfl]
  iapply Hk
  iexists f; isplitr
  · ipureintro; exact hf
  iexact H

theorem step_ret (c : Dev nD) {α : Type} (a : α) (Q : α → sProp 𝕄) : Q a ⊢ wpc c (Prog.ret a) Q := by
  show _ ⊢ wp _ _ _ _ _
  rw [wp_ret]
  iintro H; imodintro; iexact H

theorem step_ret_eq (c : Dev nD) {α : Type} (Q : α → sProp 𝕄) (a b : α) (h : b = a) : Q a ⊢ wpc c (Prog.ret b) Q := h ▸ step_ret c a Q

theorem PV_0 (c : Dev nD) : k0_pay13 (xe0 I c) (xe1 I c) (xe2 I c) (xe3 I c) (wcol (I c).ew 0 (pe c 0)) (wcol (I c).ew 1 (pe c 0)) (wcol (I c).ew 2 (pe c 0)) (wcol (I c).ew 3 (pe c 0)) = PV I c 0 := rfl
theorem PV_1 (c : Dev nD) : k0_pay9 (xe0 I c) (xe1 I c) (xe2 I c) (xe3 I c) (wcol (I c).ew 0 (pe c 1)) (wcol (I c).ew 1 (pe c 1)) (wcol (I c).ew 2 (pe c 1)) (wcol (I c).ew 3 (pe c 1)) = PV I c 1 := rfl
theorem PV_2 (c : Dev nD) : k0_pay12 (xe2 I c) (xe3 I c) (k0_pay10 (xe0 I c) (xe1 I c) (wcol (I c).ew 0 (pe c 2)) (wcol (I c).ew 1 (pe c 2))) (k0_pay11 (wcol (I c).ew 2 (pe c 2)))
    (constant S512x128 .f32 0x00000000#32) (wcol (I c).ew 3 (pe c 2)) = PV I c 2 := rfl

theorem slot_PV (c : Dev nD) (k : Fin 3) : ownsTc c (slotM k) fullShare (PV I c k)
    ⊢ (iprop(ownsTc c (partM 0 k) fullShare (PX I c k 0) ∗ ownsTc c (partM 1 k) fullShare (PX I c k 1)) : sProp 𝕄) := slot_split c k (PV I c k)

/-! ## The kernel, part by part -/

theorem part1_run (c : Dev nD) (l : List Item) {Q : (Σ' (d0 : Dev nD) (v2 : BitVec 32) (v3 : Sems sig S_) (v17 : FVec F S512x256 .bf16), FVec F S512x16 .f32) → sProp 𝕄} :
    iprop(records I K ∗ ow c (.inl 0 :: .inl 1 :: .inl 2 :: l)
        ∗ (dutyTok ER (barCell (sr c 0)) 0 (0 : Fin 3) ∗ dutyTok ER (barCell (sr c 1)) 0 (1 : Fin 3) ∗ dutyTok ER (barCell (sr c 2)) 0 (2 : Fin 3))
        ∗ ((rsAny c 0 0 ∗ rsAny c 1 0) ∗ outAny c 0 (sr c 0) ∗ outAny c 1 (sr c 0))
        ∗ ((rsAny c 0 1 ∗ rsAny c 1 1) ∗ outAny c 0 (sr c 1) ∗ outAny c 1 (sr c 1))
        ∗ ((rsAny c 0 2 ∗ rsAny c 1 2) ∗ outAny c 0 (sr c 2) ∗ outAny c 1 (sr c 2))
        ∗ ownsTc c stg0 fullShare (I c).x ∗ ownsTc c stg1 fullShare (I c).rw)
      ⊢ iprop(((ow c l ∗ ownsTc c stg0 fullShare (I c).x ∗ ownsTc c stg1 fullShare (I c).rw)
            -∗ Q ⟨c, v2w c, SemArray.scalar (sig.barrier 0 rfl), xs I c, pr I c⟩)
          -∗ wpc c (k0_part1 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5) Q) := by
  rw [k0_part1_eq_skeleton]; unfold k0_part1_skel
  simp only [semSignalWord, Prog.lift, Prog.bind_op, Prog.bind_ret, Prog.pure_eq_ret, wp_deviceId]
  iintro ⟨#HR, HO, ⟨Ht0, Ht1, Ht2⟩, Hp0, Hp1, Hp2, H0, H1⟩ Hk
  iapply (step_signal I K c _ 0 (Fin.ext (k0_dev1_eq c)) _) $$ [HO Ht0 Hp0]
  · isplitr; · iexact HR
    isplitl [HO]; · iexact HO
    isplitl [Ht0]; · iexact Ht0
    iexact Hp0
  iintro HO
  iapply (step_signal I K c _ 1 (Fin.ext (k0_dev2_eq c)) _) $$ [HO Ht1 Hp1]
  · isplitr; · iexact HR
    isplitl [HO]; · iexact HO
    isplitl [Ht1]; · iexact Ht1
    iexact Hp1
  iintro HO
  iapply (step_signal I K c _ 2 (Fin.ext (k0_dev3_eq c)) _) $$ [HO Ht2 Hp2]
  · isplitr; · iexact HR
    isplitl [HO]; · iexact HO
    isplitl [Ht2]; · iexact Ht2
    iexact Hp2
  iintro HO
  iapply (step_load_at c stg0 _ fullShare (I c).x (I c).x (emb_zero (by decide) _ _)) $$ H0
  iintro H0
  iapply (step_load_at c stg1 _ fullShare (I c).rw (I c).rw (emb_zero (by decide) _ _)) $$ H1
  iintro H1
  iapply (step_ret_eq c Q ⟨c, v2w c, SemArray.scalar (sig.barrier 0 rfl), xs I c, pr I c⟩ _ rfl)
  iapply Hk
  isplitl [HO]; · iexact HO
  isplitl [H0]; · iexact H0
  iexact H1

theorem part2_run (c : Dev nD) {Q : (Σ' (v47 : FVec F S512x256 .bf16) (v56 : FVec F S512x256 .bf16) (v65 : FVec F S512x256 .bf16), FVec F S512x256 .bf16) → sProp 𝕄} :
    ownsTc c stg2 fullShare (I c).ix
      ⊢ iprop((ownsTc c stg2 fullShare (I c).ix -∗ Q ⟨xe0 I c, xe1 I c, xe2 I c, xe3 I c⟩)
          -∗ wpc c (k0_part2 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 (v2w c) (xs I c) (pr I c)) Q) := by
  rw [k0_part2_eq_skeleton]; unfold k0_part2_skel
  simp only [Prog.lift, Prog.bind_op, Prog.bind_ret, Prog.pure_eq_ret]
  iintro H2 Hk
  iapply (step_load_at c stg2 _ fullShare (I c).ix (I c).ix (emb_zero (by decide) _ _)) $$ H2
  iintro H2
  iapply (step_ret_eq c Q ⟨xe0 I c, xe1 I c, xe2 I c, xe3 I c⟩ _ rfl)
  iapply Hk; iexact H2

theorem part3_run (c : Dev nD) (l : List Item) (hl : ∀ x ∈ l, 1 < ilev x) {Q : BitVec 32 → sProp 𝕄} :
    iprop(records I K ∗ ow c l ∗ cred (tallyAt (barCell c) () 3) ∗ atPos ER (barCell c) 0 ∅ 0
        ∗ ownsTc c stg3 fullShare (I c).ew ∗ (∃ X, ownsTc c (slotM 1) fullShare X))
      ⊢ iprop(((ow c l ∗ Dn c none ∗ (barPay c 0 ∗ barPay c 1 ∗ barPay c 2) ∗ ownsTc c stg3 fullShare (I c).ew
            ∗ ownsTc c (partM 0 1) fullShare (PX I c 1 0) ∗ ownsTc c (partM 1 1) fullShare (PX I c 1 1))
            -∗ Q (Scalar.remsi (Scalar.addi (v2w c) 2#32) 4#32))
          -∗ wpc c (k0_part3 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) (SemArray.scalar (sig.barrier 0 rfl)) (xe0 I c) (xe1 I c) (xe2 I c) (xe3 I c)) Q) := by
  rw [k0_part3_eq_skeleton]; unfold k0_part3_skel
  simp only [semWaitWord, Prog.lift, Prog.bind_op, Prog.bind_ret, Prog.pure_eq_ret]
  iintro ⟨#HR, HO, Hc, Ha, H3, ⟨%X6, H6⟩⟩ Hk
  iapply (step_barrier I K c l hl) $$ [HO Hc Ha]
  · isplitr; · iexact HR
    isplitl [HO]; · iexact HO
    isplitl [Hc]; · iexact Hc
    iexact Ha
  iintro ⟨HO, Hz, Hb⟩
  iapply (step_load_at c stg3 _ fullShare (I c).ew _ (wcol_at _ 0 (pe c 1) (k0_off1_eq c 1) _)) $$ H3
  iintro H3
  iapply (step_load_at c stg3 _ fullShare (I c).ew _ (wcol_at _ 1 (pe c 1) (k0_off2_eq c 1) _)) $$ H3
  iintro H3
  iapply (step_load_at c stg3 _ fullShare (I c).ew _ (wcol_at _ 2 (pe c 1) (k0_off3_eq c 1) _)) $$ H3
  iintro H3
  iapply (step_load_at c stg3 _ fullShare (I c).ew _ (wcol_at _ 3 (pe c 1) (k0_off4_eq c 1) _)) $$ H3
  iintro H3
  iapply (step_load_blk c scr0 (rectP (ps 1)) (fun _ => rfl) fullShare X6) $$ H6
  iintro H6
  iapply (step_store_blk c scr0 (rectP (ps 1)) (fun _ => rfl) X6 _) $$ H6
  iintro H6
  rw [PV_1]
  ihave H6 := (slot_PV I c 1) $$ H6
  icases H6 with ⟨H60, H61⟩
  iapply step_ret
  iapply Hk
  isplitl [HO]; · iexact HO
  isplitl [Hz]; · iexact Hz
  isplitl [Hb]; · iexact Hb
  isplitl [H3]; · iexact H3
  isplitl [H60]; · iexact H60
  iexact H61

theorem part4_run (c : Dev nD) (l : List Item) {Q : (Σ' (v122 : BitVec 32) (v123 : BitVec 32) (v132 : FVec F S512x128 .f32) (v135 : FVec F S256x128 .bf16), FVec F S512x128 .f32) → sProp 𝕄} (v76 : BitVec 32) :
    iprop(records I K ∗ ow c (.inr (false, 0, 1) :: .inr (false, 1, 1) :: l) ∗ Rdy c 0 1 0 1 ∗ Rdy c 0 1 1 1
        ∗ rsAny (pe c 1) 0 1 ∗ rsAny (pe c 1) 1 1
        ∗ ownsTc c stg3 fullShare (I c).ew ∗ ownsTc c (partM 0 1) fullShare (PX I c 1 0) ∗ ownsTc c (partM 1 1) fullShare (PX I c 1 1))
      ⊢ iprop((∀ v122 v123, (ow c l ∗ Wt c 0 0 1 ∗ Wt c 0 1 1 ∗ ownsTc c stg3 fullShare (I c).ew)
            -∗ Q ⟨v122, v123, k0_pay10 (xe0 I c) (xe1 I c) (wcol (I c).ew 0 (pe c 2)) (wcol (I c).ew 1 (pe c 2)), k0_pay11 (wcol (I c).ew 2 (pe c 2)), constant S512x128 .f32 0x00000000#32⟩)
          -∗ wpc c (k0_part4 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) (xe0 I c) (xe1 I c) v76) Q) := by
  rw [k0_part4_eq_skeleton]; unfold k0_part4_skel rsAny
  simp only [Prog.lift, Prog.bind_op, Prog.bind_ret, Prog.pure_eq_ret]
  iintro ⟨#HR, HO, Hy0, Hy1, Hd0, Hd1, H3, H60, H61⟩ Hk
  iapply (step_send I K c _ 0 1 0 1 (.inr (false, 0, 1)) _ (partM 0 1) (rsM 0 1) _ _ _ _ fullShare (PX I c 1 0) (Fin.ext (k0_dev4_eq c)) rfl rfl rfl rfl rfl rfl rfl rfl (by show ownsTc _ _ _ _ = _; rw [sr_pe])) $$ [HO Hy0 H60 Hd0]
  · isplitr; · iexact HR
    isplitl [Hy0]; · iexact Hy0
    isplitl [H60]; · iexact H60
    isplitl [Hd0]; · iexact Hd0
    iexact HO
  iintro ⟨HW0, HO⟩
  iapply (step_send I K c _ 0 1 1 1 (.inr (false, 1, 1)) _ (partM 1 1) (rsM 1 1) _ _ _ _ fullShare (PX I c 1 1) (Fin.ext (k0_dev5_eq c)) rfl rfl rfl rfl rfl rfl rfl rfl (by show ownsTc _ _ _ _ = _; rw [sr_pe])) $$ [HO Hy1 H61 Hd1]
  · isplitr; · iexact HR
    isplitl [Hy1]; · iexact Hy1
    isplitl [H61]; · iexact H61
    isplitl [Hd1]; · iexact Hd1
    iexact HO
  iintro ⟨HW1, HO⟩
  iapply (step_load_at c stg3 _ fullShare (I c).ew _ (wcol_at _ 0 (pe c 2) (k0_off1_eq c 0) _)) $$ H3
  iintro H3
  iapply (step_load_at c stg3 _ fullShare (I c).ew _ (wcol_at _ 1 (pe c 2) (k0_off2_eq c 0) _)) $$ H3
  iintro H3
  iapply (step_load_at c stg3 _ fullShare (I c).ew _ (wcol_at _ 2 (pe c 2) (k0_off3_eq c 0) _)) $$ H3
  iintro H3
  iapply step_ret
  iapply Hk
  isplitl [HO]; · iexact HO
  isplitl [HW0]; · iexact HW0
  isplitl [HW1]; · iexact HW1
  iexact H3

end Cert.Moe
-- ==== Proof.Moe.Parts2.lean ====
/-
  The kernel's run on one device, part by part: the copies, the sums, the waits.
-/
module

public import proofs.«01_k».proof.Proof.Moe.Parts1

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Option CI → ℕ)

theorem credit_eq (m : Memref sig .tc .vmem S256x128 .bf16) : m.view.dmaCredit = N := rfl

theorem rs_pay (c : Dev nD) (h : Fin 2) (k : Fin 3) : dmaPay I (pe c k) (1, h, k) = ownsTc (pe c k) (rsM h k) fullShare (PX I c k h) := by
  show ownsTc _ _ _ _ = _; rw [sr_pe]
theorem ag_pay (c : Dev nD) (h : Fin 2) (k : Fin 3) : dmaPay I (pe c k) (3, h, k) = ownsTc (pe c k) (outM h c) fullShare (OUTX I c h) := by
  show ownsTc _ _ _ _ = _; rw [sr_pe]

theorem outM_at (h : Fin 2) (s : Dev nD) {off : Fin 2 → ℕ} (e : off = ![256 * h.val, 128 * s.val]) (inb : ∀ a, off a + S256x128.size a ≤ S512x512.size a) :
    (stg5.slice (Rect.unit (s := S512x512) off S256x128.size inb) (fun _ => rfl) : Memref sig .tc .vmem S256x128 .bf16) = outM h s := by
  subst e; rfl

/-- A load of a receive slot's half, arrived. -/
theorem step_load_rs (c : Dev nD) (h : Fin 2) (k : Fin 3) {hl : scr1.view.LoadsAt (rectS k h).toLoadRect}
    {α : Type} {Q : α → sProp 𝕄} {kk : ((rectS k h).shape.Idx → Elt F .bf16) → Prog (TpuEff nD τ sig (Elt F) Λ₀ .tc) α} :
    dmaPay I c (1, h, k)
      ⊢ iprop((dmaPay I c (1, h, k) -∗ wpc c (kk (RV I (sr c k) k h)) Q) -∗ wpc c (.op (.load scr1 (rectS k h).toLoadRect hl) kk) Q) :=
  step_load_sq c scr1 (rectS k h) (fun _ => rfl) squeezes_S1x256x128_S256x128 fullShare (RV I (sr c k) k h)

/-- A load and a store of a result block. -/
theorem step_load_out (c : Dev nD) (h : Fin 2) (s : Dev nD) {off : Fin 2 → ℕ} (e : off = ![256 * h.val, 128 * s.val]) {inb : ∀ a, off a + S256x128.size a ≤ S512x512.size a}
    (X : S256x128.Idx → Elt F .bf16) {hl : stg5.view.LoadsAt (Rect.unit (s := S512x512) off S256x128.size inb).toLoadRect}
    {α : Type} {Q : α → sProp 𝕄} {kk : (S256x128.Idx → Elt F .bf16) → Prog (TpuEff nD τ sig (Elt F) Λ₀ .tc) α} :
    ownsTc c (outM h s) fullShare X
      ⊢ iprop((ownsTc c (outM h s) fullShare X -∗ wpc c (kk X) Q) -∗ wpc c (.op (.load stg5 (Rect.unit (s := S512x512) off S256x128.size inb).toLoadRect hl) kk) Q) := by
  subst e
  exact step_load_blk c stg5 (rectO h s) (fun _ => rfl) fullShare X
theorem step_store_out (c : Dev nD) (h : Fin 2) (s : Dev nD) {off : Fin 2 → ℕ} (e : off = ![256 * h.val, 128 * s.val]) {inb : ∀ a, off a + S256x128.size a ≤ S512x512.size a}
    (X w v : S256x128.Idx → Elt F .bf16) (hv : w = v) {hx : (stg5.access (Rect.unit (s := S512x512) off S256x128.size inb)).Stores Finset.univ}
    {hm : Finset.univ = Finset.univ ∨ ∀ a, (Rect.unit (s := S512x512) off S256x128.size inb).stride a = 1}
    {α : Type} {Q : α → sProp 𝕄} {kk : PUnit → Prog (TpuEff nD τ sig (Elt F) Λ₀ .tc) α} :
    ownsTc c (outM h s) fullShare X
      ⊢ iprop((ownsTc c (outM h s) fullShare v -∗ wpc c (kk ⟨⟩) Q) -∗ wpc c (.op (.store stg5 (Rect.unit (s := S512x512) off S256x128.size inb) w Finset.univ hx hm) kk) Q) := by
  subst e hv
  exact step_store_blk c stg5 (rectO h s) (fun _ => rfl) X w

theorem part5_run (c : Dev nD) (l : List Item) (v122 v123 : BitVec 32) {Q : PUnit → sProp 𝕄} :
    iprop(records I K
        ∗ ow c (.inr (false, 0, 2) :: l)
        ∗ Rdy c 0 1 0 2
        ∗ rsAny (pe c 2) 0 2
        ∗ ownsTc c stg3 fullShare (I c).ew
        ∗ (∃ X, ownsTc c (slotM 2) fullShare X))
      ⊢ iprop(((ow c l
        ∗ Wt c 0 0 2
        ∗ ownsTc c stg3 fullShare (I c).ew
        ∗ ownsTc c (partM 1 2) fullShare (PX I c 2 1))
            -∗ Q ⟨⟩)
          -∗ wpc c (k0_part5 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (xe2 I c) (xe3 I c) v122 v123 (k0_pay10 (xe0 I c) (xe1 I c) (wcol (I c).ew 0 (pe c 2)) (wcol (I c).ew 1 (pe c 2))) (k0_pay11 (wcol (I c).ew 2 (pe c 2))) (constant S512x128 .f32 0x00000000#32)) Q) := by
  rw [k0_part5_eq_skeleton]; unfold k0_part5_skel rsAny
  simp only [Prog.lift, Prog.bind_op, Prog.bind_ret, Prog.pure_eq_ret]
  iintro ⟨#HR, HO, Hy02, Hd02, H3, ⟨%X6, H6⟩⟩ Hk
  iapply (step_load_at c stg3 _ fullShare (I c).ew _ (wcol_at _ 3 (pe c 2) (k0_off4_eq c 0) _)) $$ H3
  iintro H3
  iapply (step_load_blk c scr0 (rectP (ps 2)) (fun _ => rfl) fullShare X6) $$ H6
  iintro H6
  iapply (step_store_blk c scr0 (rectP (ps 2)) (fun _ => rfl) X6 _) $$ H6
  iintro H6
  rw [PV_2]
  ihave H6 := (slot_PV I c 2) $$ H6
  icases H6 with ⟨H60, H61⟩
  iapply (step_send I K c _ 0 1 0 2 (.inr (false, 0, 2)) _ (partM 0 2) (rsM 0 2) _ _ _ _ fullShare (PX I c 2 0) (Fin.ext (k0_dev6_eq c)) rfl rfl rfl rfl rfl rfl rfl rfl (rs_pay I c 0 2)) $$ [Hy02 H60 Hd02 HO]
  · isplitr; · iexact HR
    isplitl [Hy02]; · iexact Hy02
    isplitl [H60]; · iexact H60
    isplitl [Hd02]; · iexact Hd02
    iexact HO
  iintro ⟨HW002, HO⟩
  iapply step_ret
  iapply Hk
  isplitl [HO]; · iexact HO
  isplitl [HW002]; · iexact HW002
  isplitl [H3]; · iexact H3
  iexact H61

theorem part6_run (c : Dev nD) (l : List Item) {Q : BitVec 32 → sProp 𝕄} :
    iprop(records I K
        ∗ ow c (.inr (false, 1, 2) :: l)
        ∗ Rdy c 0 1 1 2
        ∗ rsAny (pe c 2) 1 2
        ∗ ownsTc c (partM 1 2) fullShare (PX I c 2 1)
        ∗ ownsTc c stg3 fullShare (I c).ew
        ∗ (∃ X, ownsTc c (slotM 0) fullShare X))
      ⊢ iprop((∀ v168, (ow c l
        ∗ Wt c 0 1 2
        ∗ ownsTc c stg3 fullShare (I c).ew
        ∗ ownsTc c (partM 0 0) fullShare (PX I c 0 0)
        ∗ ownsTc c (partM 1 0) fullShare (PX I c 0 1))
            -∗ Q v168)
          -∗ wpc c (k0_part6 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) (xe0 I c) (xe1 I c) (xe2 I c) (xe3 I c)) Q) := by
  rw [k0_part6_eq_skeleton]; unfold k0_part6_skel rsAny
  simp only [Prog.lift, Prog.bind_op, Prog.bind_ret, Prog.pure_eq_ret]
  iintro ⟨#HR, HO, Hy12, Hd12, H61, H3, ⟨%X6, H6⟩⟩ Hk
  iapply (step_send I K c _ 0 1 1 2 (.inr (false, 1, 2)) _ (partM 1 2) (rsM 1 2) _ _ _ _ fullShare (PX I c 2 1) (Fin.ext (k0_dev7_eq c)) rfl rfl rfl rfl rfl rfl rfl rfl (rs_pay I c 1 2)) $$ [Hy12 H61 Hd12 HO]
  · isplitr; · iexact HR
    isplitl [Hy12]; · iexact Hy12
    isplitl [H61]; · iexact H61
    isplitl [Hd12]; · iexact Hd12
    iexact HO
  iintro ⟨HW012, HO⟩
  iapply (step_load_at c stg3 _ fullShare (I c).ew _ (wcol_at _ 0 (pe c 0) (k0_off1_eq c 2) _)) $$ H3
  iintro H3
  iapply (step_load_at c stg3 _ fullShare (I c).ew _ (wcol_at _ 1 (pe c 0) (k0_off2_eq c 2) _)) $$ H3
  iintro H3
  iapply (step_load_at c stg3 _ fullShare (I c).ew _ (wcol_at _ 2 (pe c 0) (k0_off3_eq c 2) _)) $$ H3
  iintro H3
  iapply (step_load_at c stg3 _ fullShare (I c).ew _ (wcol_at _ 3 (pe c 0) (k0_off4_eq c 2) _)) $$ H3
  iintro H3
  iapply (step_load_blk c scr0 (rectP (ps 0)) (fun _ => rfl) fullShare X6) $$ H6
  iintro H6
  iapply (step_store_blk c scr0 (rectP (ps 0)) (fun _ => rfl) X6 _) $$ H6
  iintro H6
  rw [PV_0]
  ihave H6 := (slot_PV I c 0) $$ H6
  icases H6 with ⟨H60, H61⟩
  iapply step_ret
  iapply Hk
  isplitl [HO]; · iexact HO
  isplitl [HW012]; · iexact HW012
  isplitl [H3]; · iexact H3
  isplitl [H60]; · iexact H60
  iexact H61

theorem part7_run (c : Dev nD) (l : List Item) (v168 : BitVec 32) {Q : (Σ' (v213 : BitVec 32), FVec F S512x128 .f32) → sProp 𝕄} :
    iprop(records I K
        ∗ ow c (.inr (false, 0, 0) :: .inr (false, 1, 0) :: l)
        ∗ Rdy c 0 1 0 0
        ∗ Rdy c 0 1 1 0
        ∗ rsAny (pe c 0) 0 0
        ∗ rsAny (pe c 0) 1 0
        ∗ ownsTc c (partM 0 0) fullShare (PX I c 0 0)
        ∗ ownsTc c (partM 1 0) fullShare (PX I c 0 1)
        ∗ ownsTc c stg3 fullShare (I c).ew)
      ⊢ iprop((∀ v213, (ow c l
        ∗ Wt c 0 0 0
        ∗ Wt c 0 1 0
        ∗ ownsTc c stg3 fullShare (I c).ew)
            -∗ Q ⟨v213, own3 I c⟩)
          -∗ wpc c (k0_part7 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) (xe0 I c) (xe1 I c) (xe2 I c) v168) Q) := by
  rw [k0_part7_eq_skeleton]; unfold k0_part7_skel rsAny
  simp only [Prog.lift, Prog.bind_op, Prog.bind_ret, Prog.pure_eq_ret]
  iintro ⟨#HR, HO, Hy00, Hy10, Hd00, Hd10, H60, H61, H3⟩ Hk
  iapply (step_send I K c _ 0 1 0 0 (.inr (false, 0, 0)) _ (partM 0 0) (rsM 0 0) _ _ _ _ fullShare (PX I c 0 0) (Fin.ext (k0_dev8_eq c)) rfl rfl rfl rfl rfl rfl rfl rfl (rs_pay I c 0 0)) $$ [Hy00 H60 Hd00 HO]
  · isplitr; · iexact HR
    isplitl [Hy00]; · iexact Hy00
    isplitl [H60]; · iexact H60
    isplitl [Hd00]; · iexact Hd00
    iexact HO
  iintro ⟨HW000, HO⟩
  iapply (step_send I K c _ 0 1 1 0 (.inr (false, 1, 0)) _ (partM 1 0) (rsM 1 0) _ _ _ _ fullShare (PX I c 0 1) (Fin.ext (k0_dev9_eq c)) rfl rfl rfl rfl rfl rfl rfl rfl (rs_pay I c 1 0)) $$ [Hy10 H61 Hd10 HO]
  · isplitr; · iexact HR
    isplitl [Hy10]; · iexact Hy10
    isplitl [H61]; · iexact H61
    isplitl [Hd10]; · iexact Hd10
    iexact HO
  iintro ⟨HW010, HO⟩
  iapply (step_load_at c stg3 _ fullShare (I c).ew _ (wcol_at _ 0 c (k0_off5_eq c) _)) $$ H3
  iintro H3
  iapply (step_load_at c stg3 _ fullShare (I c).ew _ (wcol_at _ 1 c (k0_off6_eq c) _)) $$ H3
  iintro H3
  iapply (step_load_at c stg3 _ fullShare (I c).ew _ (wcol_at _ 2 c (k0_off7_eq c) _)) $$ H3
  iintro H3
  iapply (step_ret_eq c Q ⟨_, own3 I c⟩ _ rfl)
  iapply Hk
  isplitl [HO]; · iexact HO
  isplitl [HW000]; · iexact HW000
  isplitl [HW010]; · iexact HW010
  iexact H3

theorem part8_run (c : Dev nD) (v122 v168 v213 : BitVec 32) {Q : (Σ' (v238 : FVec F S512x128 .f32), FVec F S256x128 .f32) → sProp 𝕄} :
    iprop(records I K
        ∗ ow c [.inr (true, 0, 1), .inr (true, 0, 2), .inr (true, 0, 0), .inr (true, 1, 1), .inr (true, 1, 2), .inr (true, 1, 0)]
        ∗ Wt c 1 0 2
        ∗ ownsTc c stg3 fullShare (I c).ew
        ∗ ownsTc c stg4 fullShare (I c).sw)
      ⊢ iprop(((ow c [.inr (true, 0, 1), .inr (true, 0, 2), .inr (true, 0, 0), .inr (true, 1, 1), .inr (true, 1, 2), .inr (true, 1, 0)]
        ∗ Dn c (some (1, 0, 2))
        ∗ dmaPay I c (1, 0, 2)
        ∗ ownsTc c stg3 fullShare (I c).ew
        ∗ ownsTc c stg4 fullShare (I c).sw)
            -∗ Q ⟨own I c, k0_pay16 (xs I c) (xe3 I c) (own3 I c) (wcol (I c).ew 3 c) (scol (I c).sw c) (RV I (sr c 2) 2 0)⟩)
          -∗ wpc c (k0_part8 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) (xs I c) (xe3 I c) v122 v168 v213 (own3 I c)) Q) := by
  rw [k0_part8_eq_skeleton]; unfold k0_part8_skel
  simp only [Prog.lift, Prog.bind_op, Prog.bind_ret, Prog.pure_eq_ret]
  iintro ⟨#HR, HO, HW102, H3, H4⟩ Hk
  iapply (step_load_at c stg3 _ fullShare (I c).ew _ (wcol_at _ 3 c (k0_off8_eq c) _)) $$ H3
  iintro H3
  iapply (step_load_at c stg4 _ fullShare (I c).sw _ (scol_at _ c (k0_off9_eq c) _)) $$ H4
  iintro H4
  iapply (step_wait I K c 1 0 2 [.inr (true, 0, 1), .inr (true, 0, 2), .inr (true, 0, 0), .inr (true, 1, 1), .inr (true, 1, 2), .inr (true, 1, 0)] _ _ _ rfl (credit_eq _) (by decide)) $$ [HW102 HO]
  · isplitr; · iexact HR
    isplitl [HW102]; · iexact HW102
    iexact HO
  iintro ⟨HO, HZ102, HG102⟩
  iapply (step_load_rs I c 0 2) $$ HG102
  iintro HG102
  iapply (step_ret_eq c Q ⟨own I c, k0_pay16 (xs I c) (xe3 I c) (own3 I c) (wcol (I c).ew 3 c) (scol (I c).sw c) (RV I (sr c 2) 2 0)⟩ _ rfl)
  iapply Hk
  isplitl [HO]; · iexact HO
  isplitl [HZ102]; · iexact HZ102
  isplitl [HG102]; · iexact HG102
  isplitl [H3]; · iexact H3
  iexact H4

theorem part9_run (c : Dev nD) (v76 : BitVec 32) {Q : BitVec 32 → sProp 𝕄} :
    iprop(records I K
        ∗ ow c [.inr (true, 0, 1), .inr (true, 0, 2), .inr (true, 0, 0), .inr (true, 1, 1), .inr (true, 1, 2), .inr (true, 1, 0)]
        ∗ Wt c 1 0 0
        ∗ Wt c 1 0 1
        ∗ (∃ X, ownsTc c (outM 0 c) fullShare X))
      ⊢ iprop((∀ v281, (ow c [.inr (true, 0, 1), .inr (true, 0, 2), .inr (true, 0, 0), .inr (true, 1, 1), .inr (true, 1, 2), .inr (true, 1, 0)]
        ∗ Dn c (some (1, 0, 0))
        ∗ dmaPay I c (1, 0, 0)
        ∗ Dn c (some (1, 0, 1))
        ∗ dmaPay I c (1, 0, 1)
        ∗ ownsTc c (outM 0 c) fullShare (OUTX I c 0))
            -∗ Q v281)
          -∗ wpc c (k0_part9 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) v76 (k0_pay16 (xs I c) (xe3 I c) (own3 I c) (wcol (I c).ew 3 c) (scol (I c).sw c) (RV I (sr c 2) 2 0))) Q) := by
  rw [k0_part9_eq_skeleton]; unfold k0_part9_skel
  simp only [Prog.lift, Prog.bind_op, Prog.bind_ret, Prog.pure_eq_ret]
  iintro ⟨#HR, HO, HW100, HW101, ⟨%X5, H5⟩⟩ Hk
  iapply (step_wait I K c 1 0 0 [.inr (true, 0, 1), .inr (true, 0, 2), .inr (true, 0, 0), .inr (true, 1, 1), .inr (true, 1, 2), .inr (true, 1, 0)] _ _ _ rfl (credit_eq _) (by decide)) $$ [HW100 HO]
  · isplitr; · iexact HR
    isplitl [HW100]; · iexact HW100
    iexact HO
  iintro ⟨HO, HZ100, HG100⟩
  iapply (step_load_rs I c 0 0) $$ HG100
  iintro HG100
  iapply (step_wait I K c 1 0 1 [.inr (true, 0, 1), .inr (true, 0, 2), .inr (true, 0, 0), .inr (true, 1, 1), .inr (true, 1, 2), .inr (true, 1, 0)] _ _ _ rfl (credit_eq _) (by decide)) $$ [HW101 HO]
  · isplitr; · iexact HR
    isplitl [HW101]; · iexact HW101
    iexact HO
  iintro ⟨HO, HZ101, HG101⟩
  iapply (step_load_rs I c 0 1) $$ HG101
  iintro HG101
  iapply (step_load_out c 0 c (k0_off10_eq c) X5) $$ H5
  iintro H5
  iapply (step_store_out c 0 c (k0_off10_eq c) X5 _ (OUTX I c 0) rfl) $$ H5
  iintro H5
  iapply step_ret
  iapply Hk
  isplitl [HO]; · iexact HO
  isplitl [HZ100]; · iexact HZ100
  isplitl [HG100]; · iexact HG100
  isplitl [HZ101]; · iexact HZ101
  isplitl [HG101]; · iexact HG101
  iexact H5

theorem part10_run (c : Dev nD) (l : List Item) (v281 : BitVec 32) {Q : (Σ' (v293 : BitVec 32), BitVec 32) → sProp 𝕄} :
    iprop(records I K
        ∗ ow c (.inr (true, 0, 1) :: .inr (true, 0, 2) :: l)
        ∗ Rdy c 2 3 0 1
        ∗ Rdy c 2 3 0 2
        ∗ outAny (pe c 1) 0 c
        ∗ outAny (pe c 2) 0 c
        ∗ ownsTc c (outM 0 c) (third 1) (OUTX I c 0)
        ∗ ownsTc c (outM 0 c) (third 2) (OUTX I c 0))
      ⊢ iprop((∀ v293 v305, (ow c l
        ∗ Wt c 2 0 1
        ∗ Wt c 2 0 2)
            -∗ Q ⟨v293, v305⟩)
          -∗ wpc c (k0_part10 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) v281) Q) := by
  rw [k0_part10_eq_skeleton]; unfold k0_part10_skel outAny
  simp only [Prog.lift, Prog.bind_op, Prog.bind_ret, Prog.pure_eq_ret]
  iintro ⟨#HR, HO, Hy01, Hy02, Hd01, Hd02, HT01, HT02⟩ Hk
  iapply (step_send I K c _ 2 3 0 1 (.inr (true, 0, 1)) _ (outM 0 c) (outM 0 c) _ _ _ _ (third 1) (OUTX I c 0) (Fin.ext (k0_dev10_eq c)) (outM_at 0 c (k0_off11_eq c) _) (outM_at 0 c (k0_off11_eq c) _) rfl rfl rfl rfl rfl rfl (ag_pay I c 0 1)) $$ [Hy01 HT01 Hd01 HO]
  · isplitr; · iexact HR
    isplitl [Hy01]; · iexact Hy01
    isplitl [HT01]; · iexact HT01
    isplitl [Hd01]; · iexact Hd01
    iexact HO
  iintro ⟨HW201, HO⟩
  iapply (step_send I K c _ 2 3 0 2 (.inr (true, 0, 2)) _ (outM 0 c) (outM 0 c) _ _ _ _ (third 2) (OUTX I c 0) (Fin.ext (k0_dev11_eq c)) (outM_at 0 c (k0_off11_eq c) _) (outM_at 0 c (k0_off11_eq c) _) rfl rfl rfl rfl rfl rfl (ag_pay I c 0 2)) $$ [Hy02 HT02 Hd02 HO]
  · isplitr; · iexact HR
    isplitl [Hy02]; · iexact Hy02
    isplitl [HT02]; · iexact HT02
    isplitl [Hd02]; · iexact Hd02
    iexact HO
  iintro ⟨HW202, HO⟩
  iapply step_ret
  iapply Hk
  isplitl [HO]; · iexact HO
  isplitl [HW201]; · iexact HW201
  iexact HW202

theorem part11_run (c : Dev nD) (v122 v168 : BitVec 32) {Q : (Σ' (v328 : FVec F S256x128 .f32), FVec F S256x128 .f32) → sProp 𝕄} :
    iprop(records I K
        ∗ ow c (.inr (true, 0, 0) :: [.inr (true, 1, 1), .inr (true, 1, 2), .inr (true, 1, 0)])
        ∗ Rdy c 2 3 0 0
        ∗ outAny (pe c 0) 0 c
        ∗ ownsTc c (outM 0 c) (third 0) (OUTX I c 0)
        ∗ Wt c 1 1 2
        ∗ Wt c 1 1 0)
      ⊢ iprop(((ow c [.inr (true, 1, 1), .inr (true, 1, 2), .inr (true, 1, 0)]
        ∗ Wt c 2 0 0
        ∗ Dn c (some (1, 1, 2))
        ∗ dmaPay I c (1, 1, 2)
        ∗ Dn c (some (1, 1, 0))
        ∗ dmaPay I c (1, 1, 0))
            -∗ Q ⟨k0_pay18 (own I c) (RV I (sr c 2) 2 1), k0_pay19 (RV I (sr c 0) 0 1)⟩)
          -∗ wpc c (k0_part11 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c v122 v168 (own I c)) Q) := by
  rw [k0_part11_eq_skeleton]; unfold k0_part11_skel outAny
  simp only [Prog.lift, Prog.bind_op, Prog.bind_ret, Prog.pure_eq_ret]
  iintro ⟨#HR, HO, Hy00, Hd00, HT00, HW112, HW110⟩ Hk
  iapply (step_send I K c _ 2 3 0 0 (.inr (true, 0, 0)) _ (outM 0 c) (outM 0 c) _ _ _ _ (third 0) (OUTX I c 0) (Fin.ext (k0_dev12_eq c)) (outM_at 0 c (k0_off11_eq c) _) (outM_at 0 c (k0_off11_eq c) _) rfl rfl rfl rfl rfl rfl (ag_pay I c 0 0)) $$ [Hy00 HT00 Hd00 HO]
  · isplitr; · iexact HR
    isplitl [Hy00]; · iexact Hy00
    isplitl [HT00]; · iexact HT00
    isplitl [Hd00]; · iexact Hd00
    iexact HO
  iintro ⟨HW200, HO⟩
  iapply (step_wait I K c 1 1 2 [.inr (true, 1, 1), .inr (true, 1, 2), .inr (true, 1, 0)] _ _ _ rfl (credit_eq _) (by decide)) $$ [HW112 HO]
  · isplitr; · iexact HR
    isplitl [HW112]; · iexact HW112
    iexact HO
  iintro ⟨HO, HZ112, HG112⟩
  iapply (step_load_rs I c 1 2) $$ HG112
  iintro HG112
  iapply (step_wait I K c 1 1 0 [.inr (true, 1, 1), .inr (true, 1, 2), .inr (true, 1, 0)] _ _ _ rfl (credit_eq _) (by decide)) $$ [HW110 HO]
  · isplitr; · iexact HR
    isplitl [HW110]; · iexact HW110
    iexact HO
  iintro ⟨HO, HZ110, HG110⟩
  iapply (step_load_rs I c 1 0) $$ HG110
  iintro HG110
  iapply step_ret
  iapply Hk
  isplitl [HO]; · iexact HO
  isplitl [HW200]; · iexact HW200
  isplitl [HZ112]; · iexact HZ112
  isplitl [HG112]; · iexact HG112
  isplitl [HZ110]; · iexact HZ110
  iexact HG110

theorem part12_run (c : Dev nD) (v76 : BitVec 32) {Q : BitVec 32 → sProp 𝕄} :
    iprop(records I K
        ∗ ow c [.inr (true, 1, 1), .inr (true, 1, 2), .inr (true, 1, 0)]
        ∗ Wt c 1 1 1
        ∗ (∃ X, ownsTc c (outM 1 c) fullShare X))
      ⊢ iprop((∀ v358, (ow c [.inr (true, 1, 1), .inr (true, 1, 2), .inr (true, 1, 0)]
        ∗ Dn c (some (1, 1, 1))
        ∗ dmaPay I c (1, 1, 1)
        ∗ ownsTc c (outM 1 c) fullShare (OUTX I c 1))
            -∗ Q v358)
          -∗ wpc c (k0_part12 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) v76 (k0_pay18 (own I c) (RV I (sr c 2) 2 1)) (k0_pay19 (RV I (sr c 0) 0 1))) Q) := by
  rw [k0_part12_eq_skeleton]; unfold k0_part12_skel
  simp only [Prog.lift, Prog.bind_op, Prog.bind_ret, Prog.pure_eq_ret]
  iintro ⟨#HR, HO, HW111, ⟨%X5, H5⟩⟩ Hk
  iapply (step_wait I K c 1 1 1 [.inr (true, 1, 1), .inr (true, 1, 2), .inr (true, 1, 0)] _ _ _ rfl (credit_eq _) (by decide)) $$ [HW111 HO]
  · isplitr; · iexact HR
    isplitl [HW111]; · iexact HW111
    iexact HO
  iintro ⟨HO, HZ111, HG111⟩
  iapply (step_load_rs I c 1 1) $$ HG111
  iintro HG111
  iapply (step_load_out c 1 c (k0_off12_eq c) X5) $$ H5
  iintro H5
  iapply (step_store_out c 1 c (k0_off12_eq c) X5 _ (OUTX I c 1) rfl) $$ H5
  iintro H5
  iapply step_ret
  iapply Hk
  isplitl [HO]; · iexact HO
  isplitl [HZ111]; · iexact HZ111
  isplitl [HG111]; · iexact HG111
  iexact H5

theorem part13_run (c : Dev nD) (l : List Item) (v281 : BitVec 32) {Q : (Σ' (v370 : BitVec 32), BitVec 32) → sProp 𝕄} :
    iprop(records I K
        ∗ ow c (.inr (true, 1, 1) :: .inr (true, 1, 2) :: .inr (true, 1, 0) :: l)
        ∗ Rdy c 2 3 1 1
        ∗ Rdy c 2 3 1 2
        ∗ Rdy c 2 3 1 0
        ∗ outAny (pe c 1) 1 c
        ∗ outAny (pe c 2) 1 c
        ∗ outAny (pe c 0) 1 c
        ∗ ownsTc c (outM 1 c) (third 1) (OUTX I c 1)
        ∗ ownsTc c (outM 1 c) (third 2) (OUTX I c 1)
        ∗ ownsTc c (outM 1 c) (third 0) (OUTX I c 1))
      ⊢ iprop((∀ v370 v382, (ow c l
        ∗ Wt c 2 1 1
        ∗ Wt c 2 1 2
        ∗ Wt c 2 1 0)
            -∗ Q ⟨v370, v382⟩)
          -∗ wpc c (k0_part13 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c (v2w c) v281) Q) := by
  rw [k0_part13_eq_skeleton]; unfold k0_part13_skel outAny
  simp only [Prog.lift, Prog.bind_op, Prog.bind_ret, Prog.pure_eq_ret]
  iintro ⟨#HR, HO, Hy11, Hy12, Hy10, Hd11, Hd12, Hd10, HT11, HT12, HT10⟩ Hk
  iapply (step_send I K c _ 2 3 1 1 (.inr (true, 1, 1)) _ (outM 1 c) (outM 1 c) _ _ _ _ (third 1) (OUTX I c 1) (Fin.ext (k0_dev13_eq c)) (outM_at 1 c (k0_off13_eq c) _) (outM_at 1 c (k0_off13_eq c) _) rfl rfl rfl rfl rfl rfl (ag_pay I c 1 1)) $$ [Hy11 HT11 Hd11 HO]
  · isplitr; · iexact HR
    isplitl [Hy11]; · iexact Hy11
    isplitl [HT11]; · iexact HT11
    isplitl [Hd11]; · iexact Hd11
    iexact HO
  iintro ⟨HW211, HO⟩
  iapply (step_send I K c _ 2 3 1 2 (.inr (true, 1, 2)) _ (outM 1 c) (outM 1 c) _ _ _ _ (third 2) (OUTX I c 1) (Fin.ext (k0_dev14_eq c)) (outM_at 1 c (k0_off13_eq c) _) (outM_at 1 c (k0_off13_eq c) _) rfl rfl rfl rfl rfl rfl (ag_pay I c 1 2)) $$ [Hy12 HT12 Hd12 HO]
  · isplitr; · iexact HR
    isplitl [Hy12]; · iexact Hy12
    isplitl [HT12]; · iexact HT12
    isplitl [Hd12]; · iexact Hd12
    iexact HO
  iintro ⟨HW212, HO⟩
  iapply (step_send I K c _ 2 3 1 0 (.inr (true, 1, 0)) _ (outM 1 c) (outM 1 c) _ _ _ _ (third 0) (OUTX I c 1) (Fin.ext (k0_dev15_eq c)) (outM_at 1 c (k0_off13_eq c) _) (outM_at 1 c (k0_off13_eq c) _) rfl rfl rfl rfl rfl rfl (ag_pay I c 1 0)) $$ [Hy10 HT10 Hd10 HO]
  · isplitr; · iexact HR
    isplitl [Hy10]; · iexact Hy10
    isplitl [HT10]; · iexact HT10
    isplitl [Hd10]; · iexact Hd10
    iexact HO
  iintro ⟨HW210, HO⟩
  iapply step_ret
  iapply Hk
  isplitl [HO]; · iexact HO
  isplitl [HW211]; · iexact HW211
  isplitl [HW212]; · iexact HW212
  iexact HW210

theorem part14_run (c : Dev nD) (v293 v305 v358 v370 : BitVec 32) {Q : PUnit → sProp 𝕄} :
    iprop(records I K
        ∗ ow c []
        ∗ Wt c 3 0 1
        ∗ Wt c 3 0 2
        ∗ Wt c 3 0 0
        ∗ Wt c 3 1 1)
      ⊢ iprop(((ow c []
        ∗ Dn c (some (3, 0, 1))
        ∗ dmaPay I c (3, 0, 1)
        ∗ Dn c (some (3, 0, 2))
        ∗ dmaPay I c (3, 0, 2)
        ∗ Dn c (some (3, 0, 0))
        ∗ dmaPay I c (3, 0, 0)
        ∗ Dn c (some (3, 1, 1))
        ∗ dmaPay I c (3, 1, 1))
            -∗ Q ⟨⟩)
          -∗ wpc c (k0_part14 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c v293 v305 v358 v370) Q) := by
  rw [k0_part14_eq_skeleton]; unfold k0_part14_skel
  simp only [Prog.lift, Prog.bind_op, Prog.bind_ret, Prog.pure_eq_ret]
  iintro ⟨#HR, HO, HW301, HW302, HW300, HW311⟩ Hk
  iapply (step_wait I K c 3 0 1 [] _ _ _ rfl (credit_eq _) (by decide)) $$ [HW301 HO]
  · isplitr; · iexact HR
    isplitl [HW301]; · iexact HW301
    iexact HO
  iintro ⟨HO, HZ301, HG301⟩
  iapply (step_wait I K c 3 0 2 [] _ _ _ rfl (credit_eq _) (by decide)) $$ [HW302 HO]
  · isplitr; · iexact HR
    isplitl [HW302]; · iexact HW302
    iexact HO
  iintro ⟨HO, HZ302, HG302⟩
  iapply (step_wait I K c 3 0 0 [] _ _ _ rfl (credit_eq _) (by decide)) $$ [HW300 HO]
  · isplitr; · iexact HR
    isplitl [HW300]; · iexact HW300
    iexact HO
  iintro ⟨HO, HZ300, HG300⟩
  iapply (step_wait I K c 3 1 1 [] _ _ _ rfl (credit_eq _) (by decide)) $$ [HW311 HO]
  · isplitr; · iexact HR
    isplitl [HW311]; · iexact HW311
    iexact HO
  iintro ⟨HO, HZ311, HG311⟩
  iapply step_ret
  iapply Hk
  isplitl [HO]; · iexact HO
  isplitl [HZ301]; · iexact HZ301
  isplitl [HG301]; · iexact HG301
  isplitl [HZ302]; · iexact HZ302
  isplitl [HG302]; · iexact HG302
  isplitl [HZ300]; · iexact HZ300
  isplitl [HG300]; · iexact HG300
  isplitl [HZ311]; · iexact HZ311
  iexact HG311

theorem part15_run (c : Dev nD) (v382 : BitVec 32) {Q : PUnit → sProp 𝕄} :
    iprop(records I K
        ∗ ow c []
        ∗ Wt c 3 1 2
        ∗ Wt c 3 1 0
        ∗ Wt c 0 0 1
        ∗ Wt c 0 1 1)
      ⊢ iprop(((ow c []
        ∗ Dn c (some (3, 1, 2))
        ∗ dmaPay I c (3, 1, 2)
        ∗ Dn c (some (3, 1, 0))
        ∗ dmaPay I c (3, 1, 0)
        ∗ Dn c (some (0, 0, 1))
        ∗ dmaPay I c (0, 0, 1)
        ∗ Dn c (some (0, 1, 1))
        ∗ dmaPay I c (0, 1, 1))
            -∗ Q ⟨⟩)
          -∗ wpc c (k0_part15 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c v382) Q) := by
  rw [k0_part15_eq_skeleton]; unfold k0_part15_skel
  simp only [Prog.lift, Prog.bind_op, Prog.bind_ret, Prog.pure_eq_ret]
  iintro ⟨#HR, HO, HW312, HW310, HW001, HW011⟩ Hk
  iapply (step_wait I K c 3 1 2 [] _ _ _ rfl (credit_eq _) (by decide)) $$ [HW312 HO]
  · isplitr; · iexact HR
    isplitl [HW312]; · iexact HW312
    iexact HO
  iintro ⟨HO, HZ312, HG312⟩
  iapply (step_wait I K c 3 1 0 [] _ _ _ rfl (credit_eq _) (by decide)) $$ [HW310 HO]
  · isplitr; · iexact HR
    isplitl [HW310]; · iexact HW310
    iexact HO
  iintro ⟨HO, HZ310, HG310⟩
  iapply (step_wait I K c 0 0 1 [] _ _ _ rfl (credit_eq _) (by decide)) $$ [HW001 HO]
  · isplitr; · iexact HR
    isplitl [HW001]; · iexact HW001
    iexact HO
  iintro ⟨HO, HZ001, HG001⟩
  iapply (step_wait I K c 0 1 1 [] _ _ _ rfl (credit_eq _) (by decide)) $$ [HW011 HO]
  · isplitr; · iexact HR
    isplitl [HW011]; · iexact HW011
    iexact HO
  iintro ⟨HO, HZ011, HG011⟩
  iapply step_ret
  iapply Hk
  isplitl [HO]; · iexact HO
  isplitl [HZ312]; · iexact HZ312
  isplitl [HG312]; · iexact HG312
  isplitl [HZ310]; · iexact HZ310
  isplitl [HG310]; · iexact HG310
  isplitl [HZ001]; · iexact HZ001
  isplitl [HG001]; · iexact HG001
  isplitl [HZ011]; · iexact HZ011
  iexact HG011

theorem part16_run (c : Dev nD) {Q : PUnit → sProp 𝕄} :
    iprop(records I K
        ∗ ow c []
        ∗ Wt c 0 0 2
        ∗ Wt c 0 1 2
        ∗ Wt c 0 0 0)
      ⊢ iprop(((ow c []
        ∗ Dn c (some (0, 0, 2))
        ∗ dmaPay I c (0, 0, 2)
        ∗ Dn c (some (0, 1, 2))
        ∗ dmaPay I c (0, 1, 2)
        ∗ Dn c (some (0, 0, 0))
        ∗ dmaPay I c (0, 0, 0))
            -∗ Q ⟨⟩)
          -∗ wpc c (k0_part16 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5) Q) := by
  rw [k0_part16_eq_skeleton]; unfold k0_part16_skel
  simp only [Prog.lift, Prog.bind_op, Prog.bind_ret, Prog.pure_eq_ret]
  iintro ⟨#HR, HO, HW002, HW012, HW000⟩ Hk
  iapply (step_wait I K c 0 0 2 [] _ _ _ rfl (credit_eq _) (by decide)) $$ [HW002 HO]
  · isplitr; · iexact HR
    isplitl [HW002]; · iexact HW002
    iexact HO
  iintro ⟨HO, HZ002, HG002⟩
  iapply (step_wait I K c 0 1 2 [] _ _ _ rfl (credit_eq _) (by decide)) $$ [HW012 HO]
  · isplitr; · iexact HR
    isplitl [HW012]; · iexact HW012
    iexact HO
  iintro ⟨HO, HZ012, HG012⟩
  iapply (step_wait I K c 0 0 0 [] _ _ _ rfl (credit_eq _) (by decide)) $$ [HW000 HO]
  · isplitr; · iexact HR
    isplitl [HW000]; · iexact HW000
    iexact HO
  iintro ⟨HO, HZ000, HG000⟩
  iapply step_ret
  iapply Hk
  isplitl [HO]; · iexact HO
  isplitl [HZ002]; · iexact HZ002
  isplitl [HG002]; · iexact HG002
  isplitl [HZ012]; · iexact HZ012
  isplitl [HG012]; · iexact HG012
  isplitl [HZ000]; · iexact HZ000
  iexact HG000

theorem part17_run (c : Dev nD) {Q : PUnit → sProp 𝕄} :
    iprop(records I K
        ∗ ow c []
        ∗ Wt c 0 1 0
        ∗ Wt c 2 0 1
        ∗ Wt c 2 0 2
        ∗ Wt c 2 0 0
        ∗ Wt c 2 1 1)
      ⊢ iprop(((ow c []
        ∗ Dn c (some (0, 1, 0))
        ∗ dmaPay I c (0, 1, 0)
        ∗ Dn c (some (2, 0, 1))
        ∗ dmaPay I c (2, 0, 1)
        ∗ Dn c (some (2, 0, 2))
        ∗ dmaPay I c (2, 0, 2)
        ∗ Dn c (some (2, 0, 0))
        ∗ dmaPay I c (2, 0, 0)
        ∗ Dn c (some (2, 1, 1))
        ∗ dmaPay I c (2, 1, 1))
            -∗ Q ⟨⟩)
          -∗ wpc c (k0_part17 stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5 c) Q) := by
  rw [k0_part17_eq_skeleton]; unfold k0_part17_skel
  simp only [Prog.lift, Prog.bind_op, Prog.bind_ret, Prog.pure_eq_ret]
  iintro ⟨#HR, HO, HW010, HW201, HW202, HW200, HW211⟩ Hk
  iapply (step_wait I K c 0 1 0 [] _ _ _ rfl (credit_eq _) (by decide)) $$ [HW010 HO]
  · isplitr; · iexact HR
    isplitl [HW010]; · iexact HW010
    iexact HO
  iintro ⟨HO, HZ010, HG010⟩
  iapply (step_wait I K c 2 0 1 [] _ _ _ rfl (credit_eq _) (by decide)) $$ [HW201 HO]
  · isplitr; · iexact HR
    isplitl [HW201]; · iexact HW201
    iexact HO
  iintro ⟨HO, HZ201, HG201⟩
  iapply (step_wait I K c 2 0 2 [] _ _ _ rfl (credit_eq _) (by decide)) $$ [HW202 HO]
  · isplitr; · iexact HR
    isplitl [HW202]; · iexact HW202
    iexact HO
  iintro ⟨HO, HZ202, HG202⟩
  iapply (step_wait I K c 2 0 0 [] _ _ _ rfl (credit_eq _) (by decide)) $$ [HW200 HO]
  · isplitr; · iexact HR
    isplitl [HW200]; · iexact HW200
    iexact HO
  iintro ⟨HO, HZ200, HG200⟩
  iapply (step_wait I K c 2 1 1 [] _ _ _ rfl (credit_eq _) (by decide)) $$ [HW211 HO]
  · isplitr; · iexact HR
    isplitl [HW211]; · iexact HW211
    iexact HO
  iintro ⟨HO, HZ211, HG211⟩
  iapply step_ret
  iapply Hk
  isplitl [HO]; · iexact HO
  isplitl [HZ010]; · iexact HZ010
  isplitl [HG010]; · iexact HG010
  isplitl [HZ201]; · iexact HZ201
  isplitl [HG201]; · iexact HG201
  isplitl [HZ202]; · iexact HZ202
  isplitl [HG202]; · iexact HG202
  isplitl [HZ200]; · iexact HZ200
  isplitl [HG200]; · iexact HG200
  isplitl [HZ211]; · iexact HZ211
  iexact HG211

end Cert.Moe
-- ==== Proof.Moe.Body.lean ====
/-
  The kernel's whole run on one device.
-/
module

public import proofs.«01_k».proof.Proof.Moe.Parts2

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F) (K : Dev nD × Option CI → ℕ)

/-! ## Whole buffers and their blocks, named as the exchange names them -/

theorem hk_split (P : HK → sProp 𝕄) : bigSep Finset.univ P ⊢ iprop(P (0, 0) ∗ P (1, 0) ∗ P (0, 1) ∗ P (1, 1) ∗ P (0, 2) ∗ P (1, 2)) := by
  rw [hk_list]
  simp only [bigSepL_cons_cons, bigSepL_singleton]
  exact BIBase.Entails.rfl
theorem hk_join (P : HK → sProp 𝕄) : iprop(P (0, 0) ∗ P (1, 0) ∗ P (0, 1) ∗ P (1, 1) ∗ P (0, 2) ∗ P (1, 2)) ⊢ bigSep Finset.univ P := by
  rw [hk_list]
  simp only [bigSepL_cons_cons, bigSepL_singleton]
  exact BIBase.Entails.rfl

theorem scr1_split (c : Dev nD) (X : S3x512x128.Idx → Elt F .bf16) :
    (ownsTc c scr1 fullShare X : sProp 𝕄) ⊢ iprop(rsAny c 0 0 ∗ rsAny c 1 0 ∗ rsAny c 0 1 ∗ rsAny c 1 1 ∗ rsAny c 0 2 ∗ rsAny c 1 2) :=
  BIBase.Entails.trans (six_split c scr1 X) (hk_split fun t => rsAny c t.1 t.2)

theorem scr1_join (c : Dev nD) :
    (iprop(dmaPay I c (1, 0, 0) ∗ dmaPay I c (1, 1, 0) ∗ dmaPay I c (1, 0, 1) ∗ dmaPay I c (1, 1, 1) ∗ dmaPay I c (1, 0, 2) ∗ dmaPay I c (1, 1, 2)) : sProp 𝕄) ⊢ iprop(∃ X, ownsTc c scr1 fullShare X) :=
  BIBase.Entails.trans (hk_join fun t => dmaPay I c (1, t.1, t.2)) (six_join c scr1 fun t => PX I (sr c t.2) t.2 t.1)

theorem scr0_join (c : Dev nD) :
    (iprop(dmaPay I c (0, 0, 2) ∗ dmaPay I c (0, 1, 2) ∗ dmaPay I c (0, 0, 1) ∗ dmaPay I c (0, 1, 1) ∗ dmaPay I c (0, 0, 0) ∗ dmaPay I c (0, 1, 0)) : sProp 𝕄) ⊢ iprop(∃ X, ownsTc c scr0 fullShare X) :=
  BIBase.Entails.trans (hk_join fun t => ownsTc c ((scr0.slice (rectS t.2 t.1) (fun _ => rfl)).squeeze S256x128 squeezes_S1x256x128_S256x128) fullShare (PX I c (2 - t.2) t.1))
    (six_join c scr0 fun t => PX I c (2 - t.2) t.1)

theorem stg5_split (c : Dev nD) (X : S512x512.Idx → Elt F .bf16) :
    (ownsTc c stg5 fullShare X : sProp 𝕄) ⊢ iprop(outAny c 0 c ∗ outAny c 1 c ∗ outAny c 0 (sr c 0) ∗ outAny c 1 (sr c 0) ∗ outAny c 0 (sr c 1) ∗ outAny c 1 (sr c 1) ∗ outAny c 0 (sr c 2) ∗ outAny c 1 (sr c 2)) := by
  refine BIBase.Entails.trans (out_split c X) ?_
  rw [hs_list c]
  simp only [bigSepL_cons_cons, bigSepL_singleton]
  exact BIBase.Entails.rfl

/-- The result a device ends with. -/
def OUT : S512x512.Idx → Elt F .bf16 := outV fun s h => OUTX I s h

theorem stg5_join (c : Dev nD) :
    (iprop(ownsTc c (outM 0 c) fullShare (OUTX I c 0) ∗ ownsTc c (outM 1 c) fullShare (OUTX I c 1) ∗ dmaPay I c (3, 0, 0) ∗ dmaPay I c (3, 1, 0) ∗ dmaPay I c (3, 0, 1) ∗ dmaPay I c (3, 1, 1) ∗ dmaPay I c (3, 0, 2) ∗ dmaPay I c (3, 1, 2)) : sProp 𝕄) ⊢ ownsTc c stg5 fullShare (OUT I) := by
  refine BIBase.Entails.trans ?_ (out_join c fun s h => OUTX I s h)
  rw [hs_list c]
  simp only [bigSepL_cons_cons, bigSepL_singleton]
  exact BIBase.Entails.rfl

theorem outAny_any (c : Dev nD) (h : Fin 2) (s : Dev nD) : outAny c h s ⊢ (iprop(∃ X, ownsTc c (outM h s) fullShare X) : sProp 𝕄) := by
  unfold outAny; exact BIBase.Entails.rfl
theorem out_back (c : Dev nD) (h : Fin 2) : (iprop(dmaPay I c (2, h, 0) ∗ dmaPay I c (2, h, 1) ∗ dmaPay I c (2, h, 2)) : sProp 𝕄) ⊢ ownsTc c (outM h c) fullShare (OUTX I c h) :=
  (owns_thirds c (outM h c) (OUTX I c h)).2

/-! ## The whole body -/

/-- What a device starts its exchange with: the barrier's tokens, credit and position. -/
def barKit (c : Dev nD) : sProp 𝕄 :=
  iprop((dutyTok ER (barCell (sr c 0)) 0 (0 : Fin 3) ∗ dutyTok ER (barCell (sr c 1)) 0 (1 : Fin 3) ∗ dutyTok ER (barCell (sr c 2)) 0 (2 : Fin 3))
    ∗ cred (tallyAt (barCell c) () 3) ∗ atPos ER (barCell c) 0 ∅ 0)
/-- And the copies': both semaphores' duties of every copy it makes, the waits for every copy made to it. -/
def dmaKit (c : Dev nD) : sProp 𝕄 :=
  iprop((bigSep Finset.univ fun t : HK => Rdy c 0 1 t.1 t.2) ∗ (bigSep Finset.univ fun t : HK => Rdy c 2 3 t.1 t.2)
    ∗ (bigSep Finset.univ fun t : HK => Wt c 1 t.1 t.2) ∗ (bigSep Finset.univ fun t : HK => Wt c 3 t.1 t.2))
/-- A device's inputs, held. -/
def insOwn (c : Dev nD) : sProp 𝕄 :=
  iprop(ownsTc c stg0 fullShare (I c).x ∗ ownsTc c stg1 fullShare (I c).rw ∗ ownsTc c stg2 fullShare (I c).ix
    ∗ ownsTc c stg3 fullShare (I c).ew ∗ ownsTc c stg4 fullShare (I c).sw)
/-- Every cell of a device at zero for good. -/
def allDn (c : Dev nD) : sProp 𝕄 :=
  iprop(Dn c none ∗ (bigSep Finset.univ fun t : HK => Dn c (some (0, t.1, t.2))) ∗ (bigSep Finset.univ fun t : HK => Dn c (some (1, t.1, t.2)))
    ∗ (bigSep Finset.univ fun t : HK => Dn c (some (2, t.1, t.2))) ∗ (bigSep Finset.univ fun t : HK => Dn c (some (3, t.1, t.2))))

set_option maxHeartbeats 1600000 in
theorem body_run (c : Dev nD) {Q : PUnit → sProp 𝕄} :
    iprop(records I K ∗ ow c items ∗ barKit c ∗ dmaKit c ∗ insOwn I c ∗ (∃ X, ownsTc c stg5 fullShare X) ∗ (∃ X, ownsTc c scr0 fullShare X) ∗ (∃ X, ownsTc c scr1 fullShare X))
      ⊢ iprop(((ow c [] ∗ allDn c ∗ insOwn I c ∗ ownsTc c stg5 fullShare (OUT I) ∗ (∃ X, ownsTc c scr0 fullShare X) ∗ (∃ X, ownsTc c scr1 fullShare X)) -∗ Q ⟨⟩)
          -∗ wpc c (cc0_body stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5) Q) := by
  rw [cc0_body_eq_skeleton]; unfold cc0_body_skel
  simp only [wp_bind]
  unfold barKit dmaKit insOwn
  iintro ⟨#HR, HO, ⟨Htk, Hcb, Hab⟩, ⟨HY0, HY2, HW1, HW3⟩, ⟨H0, H1, H2, H3, H4⟩, ⟨%X5, H5⟩, ⟨%X6, H6⟩, ⟨%X7, H7⟩⟩ Hk
  ihave HY0 := (hk_split _) $$ HY0
  icases HY0 with ⟨HY000, HY010, HY001, HY011, HY002, HY012⟩
  ihave HY2 := (hk_split _) $$ HY2
  icases HY2 with ⟨HY200, HY210, HY201, HY211, HY202, HY212⟩
  ihave HW1 := (hk_split _) $$ HW1
  icases HW1 with ⟨HW100, HW110, HW101, HW111, HW102, HW112⟩
  ihave HW3 := (hk_split _) $$ HW3
  icases HW3 with ⟨HW300, HW310, HW301, HW311, HW302, HW312⟩
  ihave H5 := (stg5_split c X5) $$ H5
  icases H5 with ⟨HB0, HB1, HB00, HB10, HB01, HB11, HB02, HB12⟩
  ihave H6 := (scr0_split c X6) $$ H6
  icases H6 with ⟨HS0, HS1, HS2⟩
  ihave H7 := (scr1_split c X7) $$ H7
  icases H7 with ⟨HV00, HV10, HV01, HV11, HV02, HV12⟩
  ihave HP0 := (BIBase.Entails.rfl : iprop((rsAny c 0 0 ∗ rsAny c 1 0) ∗ outAny c 0 (sr c 0) ∗ outAny c 1 (sr c 0)) ⊢ (_ : sProp 𝕄)) $$ [HV00 HV10 HB00 HB10]
  · isplitl [HV00 HV10]
    · isplitl [HV00]; · iexact HV00
      iexact HV10
    isplitl [HB00]; · iexact HB00
    iexact HB10
  ihave HP1 := (BIBase.Entails.rfl : iprop((rsAny c 0 1 ∗ rsAny c 1 1) ∗ outAny c 0 (sr c 1) ∗ outAny c 1 (sr c 1)) ⊢ (_ : sProp 𝕄)) $$ [HV01 HV11 HB01 HB11]
  · isplitl [HV01 HV11]
    · isplitl [HV01]; · iexact HV01
      iexact HV11
    isplitl [HB01]; · iexact HB01
    iexact HB11
  ihave HP2 := (BIBase.Entails.rfl : iprop((rsAny c 0 2 ∗ rsAny c 1 2) ∗ outAny c 0 (sr c 2) ∗ outAny c 1 (sr c 2)) ⊢ (_ : sProp 𝕄)) $$ [HV02 HV12 HB02 HB12]
  · isplitl [HV02 HV12]
    · isplitl [HV02]; · iexact HV02
      iexact HV12
    isplitl [HB02]; · iexact HB02
    iexact HB12
  unfold items
  iapply (part1_run I K c _) $$ [HO Htk HP0 HP1 HP2 H0 H1]
  · isplitr; · iexact HR
    isplitl [HO]; · iexact HO
    isplitl [Htk]; · iexact Htk
    isplitl [HP0]; · iexact HP0
    isplitl [HP1]; · iexact HP1
    isplitl [HP2]; · iexact HP2
    isplitl [H0]; · iexact H0
    iexact H1
  iintro ⟨HO, H0, H1⟩
  try dsimp only
  iapply (part2_run I c) $$ H2
  iintro H2
  dsimp only
  iapply (part3_run I K c [.inr (false, 0, 1), .inr (false, 1, 1), .inr (false, 0, 2), .inr (false, 1, 2), .inr (false, 0, 0), .inr (false, 1, 0), .inr (true, 0, 1), .inr (true, 0, 2), .inr (true, 0, 0), .inr (true, 1, 1), .inr (true, 1, 2), .inr (true, 1, 0)] (by decide)) $$ [HO Hcb Hab H3 HS1]
  · isplitr; · iexact HR
    isplitl [HO]; · iexact HO
    isplitl [Hcb]; · iexact Hcb
    isplitl [Hab]; · iexact Hab
    isplitl [H3]; · iexact H3
    iexact HS1
  iintro ⟨HO, HZ, ⟨Hb0, Hb1, Hb2⟩, H3, HP01, HP11⟩
  try dsimp only
  unfold barPay
  icases Hb0 with ⟨⟨HE00, HE10⟩, HF00, HF10⟩
  icases Hb1 with ⟨⟨HE01, HE11⟩, HF01, HF11⟩
  icases Hb2 with ⟨⟨HE02, HE12⟩, HF02, HF12⟩
  iapply (part4_run I K c _ _) $$ [HO HY001 HY011 HE01 HE11 H3 HP01 HP11]
  · isplitr; · iexact HR
    isplitl [HO]; · iexact HO
    isplitl [HY001]; · iexact HY001
    isplitl [HY011]; · iexact HY011
    isplitl [HE01]; · iexact HE01
    isplitl [HE11]; · iexact HE11
    isplitl [H3]; · iexact H3
    isplitl [HP01]; · iexact HP01
    iexact HP11
  iintro %v122 %v123 ⟨HO, HW001, HW011, H3⟩
  try dsimp only
  iapply (part5_run I K c _ _ _) $$ [HO HY002 HE02 H3 HS2]
  · isplitr; · iexact HR
    isplitl [HO]; · iexact HO
    isplitl [HY002]; · iexact HY002
    isplitl [HE02]; · iexact HE02
    isplitl [H3]; · iexact H3
    iexact HS2
  iintro ⟨HO, HW002, H3, HP12⟩
  try dsimp only
  iapply (part6_run I K c _) $$ [HO HY012 HE12 HP12 H3 HS0]
  · isplitr; · iexact HR
    isplitl [HO]; · iexact HO
    isplitl [HY012]; · iexact HY012
    isplitl [HE12]; · iexact HE12
    isplitl [HP12]; · iexact HP12
    isplitl [H3]; · iexact H3
    iexact HS0
  iintro %v168 ⟨HO, HW012, H3, HP00, HP10⟩
  try dsimp only
  iapply (part7_run I K c _ _) $$ [HO HY000 HY010 HE00 HE10 HP00 HP10 H3]
  · isplitr; · iexact HR
    isplitl [HO]; · iexact HO
    isplitl [HY000]; · iexact HY000
    isplitl [HY010]; · iexact HY010
    isplitl [HE00]; · iexact HE00
    isplitl [HE10]; · iexact HE10
    isplitl [HP00]; · iexact HP00
    isplitl [HP10]; · iexact HP10
    iexact H3
  iintro %v213 ⟨HO, HW000, HW010, H3⟩
  try dsimp only
  iapply (part8_run I K c _ _ _) $$ [HO HW102 H3 H4]
  · isplitr; · iexact HR
    isplitl [HO]; · iexact HO
    isplitl [HW102]; · iexact HW102
    isplitl [H3]; · iexact H3
    iexact H4
  iintro ⟨HO, HZ102, HG102, H3, H4⟩
  try dsimp only
  ihave HB0 := (outAny_any c 0 c) $$ HB0
  ihave HB1 := (outAny_any c 1 c) $$ HB1
  iapply (part9_run I K c _) $$ [HO HW100 HW101 HB0]
  · isplitr; · iexact HR
    isplitl [HO]; · iexact HO
    isplitl [HW100]; · iexact HW100
    isplitl [HW101]; · iexact HW101
    iexact HB0
  iintro %v281 ⟨HO, HZ100, HG100, HZ101, HG101, HB0⟩
  try dsimp only
  ihave HB0 := (owns_thirds c (outM 0 c) (OUTX I c 0)).1 $$ HB0
  icases HB0 with ⟨HT00, HT01, HT02⟩
  iapply (part10_run I K c _ _) $$ [HO HY201 HY202 HF01 HF02 HT01 HT02]
  · isplitr; · iexact HR
    isplitl [HO]; · iexact HO
    isplitl [HY201]; · iexact HY201
    isplitl [HY202]; · iexact HY202
    isplitl [HF01]; · iexact HF01
    isplitl [HF02]; · iexact HF02
    isplitl [HT01]; · iexact HT01
    iexact HT02
  iintro %v293 %v305 ⟨HO, HW201, HW202⟩
  try dsimp only
  iapply (part11_run I K c _ _) $$ [HO HY200 HF00 HT00 HW112 HW110]
  · isplitr; · iexact HR
    isplitl [HO]; · iexact HO
    isplitl [HY200]; · iexact HY200
    isplitl [HF00]; · iexact HF00
    isplitl [HT00]; · iexact HT00
    isplitl [HW112]; · iexact HW112
    iexact HW110
  iintro ⟨HO, HW200, HZ112, HG112, HZ110, HG110⟩
  try dsimp only
  iapply (part12_run I K c _) $$ [HO HW111 HB1]
  · isplitr; · iexact HR
    isplitl [HO]; · iexact HO
    isplitl [HW111]; · iexact HW111
    iexact HB1
  iintro %v358 ⟨HO, HZ111, HG111, HB1⟩
  try dsimp only
  ihave HB1 := (owns_thirds c (outM 1 c) (OUTX I c 1)).1 $$ HB1
  icases HB1 with ⟨HT10, HT11, HT12⟩
  iapply (part13_run I K c _ _) $$ [HO HY211 HY212 HY210 HF11 HF12 HF10 HT11 HT12 HT10]
  · isplitr; · iexact HR
    isplitl [HO]; · iexact HO
    isplitl [HY211]; · iexact HY211
    isplitl [HY212]; · iexact HY212
    isplitl [HY210]; · iexact HY210
    isplitl [HF11]; · iexact HF11
    isplitl [HF12]; · iexact HF12
    isplitl [HF10]; · iexact HF10
    isplitl [HT11]; · iexact HT11
    isplitl [HT12]; · iexact HT12
    iexact HT10
  iintro %v370 %v382 ⟨HO, HW211, HW212, HW210⟩
  try dsimp only
  iapply (part14_run I K c _ _ _ _) $$ [HO HW301 HW302 HW300 HW311]
  · isplitr; · iexact HR
    isplitl [HO]; · iexact HO
    isplitl [HW301]; · iexact HW301
    isplitl [HW302]; · iexact HW302
    isplitl [HW300]; · iexact HW300
    iexact HW311
  iintro ⟨HO, HZ301, HG301, HZ302, HG302, HZ300, HG300, HZ311, HG311⟩
  try dsimp only
  iapply (part15_run I K c _) $$ [HO HW312 HW310 HW001 HW011]
  · isplitr; · iexact HR
    isplitl [HO]; · iexact HO
    isplitl [HW312]; · iexact HW312
    isplitl [HW310]; · iexact HW310
    isplitl [HW001]; · iexact HW001
    iexact HW011
  iintro ⟨HO, HZ312, HG312, HZ310, HG310, HZ001, HG001, HZ011, HG011⟩
  try dsimp only
  iapply (part16_run I K c) $$ [HO HW002 HW012 HW000]
  · isplitr; · iexact HR
    isplitl [HO]; · iexact HO
    isplitl [HW002]; · iexact HW002
    isplitl [HW012]; · iexact HW012
    iexact HW000
  iintro ⟨HO, HZ002, HG002, HZ012, HG012, HZ000, HG000⟩
  try dsimp only
  iapply (part17_run I K c) $$ [HO HW010 HW201 HW202 HW200 HW211]
  · isplitr; · iexact HR
    isplitl [HO]; · iexact HO
    isplitl [HW010]; · iexact HW010
    isplitl [HW201]; · iexact HW201
    isplitl [HW202]; · iexact HW202
    isplitl [HW200]; · iexact HW200
    iexact HW211
  iintro ⟨HO, HZ010, HG010, HZ201, HG201, HZ202, HG202, HZ200, HG200, HZ211, HG211⟩
  try dsimp only
  simp only [Prog.lift, Prog.bind_op, Prog.bind_ret, Prog.pure_eq_ret]
  iapply (step_wait I K c 2 1 2 [] _ _ _ rfl (credit_eq _) (by decide)) $$ [HW212 HO]
  · isplitr; · iexact HR
    isplitl [HW212]; · iexact HW212
    iexact HO
  iintro ⟨HO, HZ212, HG212⟩
  iapply step_ret
  try dsimp only
  iapply (step_wait I K c 2 1 0 [] _ _ _ rfl (credit_eq _) (by decide)) $$ [HW210 HO]
  · isplitr; · iexact HR
    isplitl [HW210]; · iexact HW210
    iexact HO
  iintro ⟨HO, HZ210, HG210⟩
  iapply step_ret
  try dsimp only
  iapply step_ret
  iapply Hk
  ihave HB0 := (out_back I c 0) $$ [HG200 HG201 HG202]
  · isplitl [HG200]; · iexact HG200
    isplitl [HG201]; · iexact HG201
    iexact HG202
  ihave HB1 := (out_back I c 1) $$ [HG210 HG211 HG212]
  · isplitl [HG210]; · iexact HG210
    isplitl [HG211]; · iexact HG211
    iexact HG212
  isplitl [HO]; · iexact HO
  isplitl [HZ HZ000 HZ010 HZ001 HZ011 HZ002 HZ012 HZ100 HZ110 HZ101 HZ111 HZ102 HZ112 HZ200 HZ210 HZ201 HZ211 HZ202 HZ212 HZ300 HZ310 HZ301 HZ311 HZ302 HZ312]
  · unfold allDn
    isplitl [HZ]; · iexact HZ
    isplitl [HZ000 HZ010 HZ001 HZ011 HZ002 HZ012]
    · iapply (hk_join fun t => Dn c (some (0, t.1, t.2)))
      isplitl [HZ000]; · iexact HZ000
      isplitl [HZ010]; · iexact HZ010
      isplitl [HZ001]; · iexact HZ001
      isplitl [HZ011]; · iexact HZ011
      isplitl [HZ002]; · iexact HZ002
      iexact HZ012
    isplitl [HZ100 HZ110 HZ101 HZ111 HZ102 HZ112]
    · iapply (hk_join fun t => Dn c (some (1, t.1, t.2)))
      isplitl [HZ100]; · iexact HZ100
      isplitl [HZ110]; · iexact HZ110
      isplitl [HZ101]; · iexact HZ101
      isplitl [HZ111]; · iexact HZ111
      isplitl [HZ102]; · iexact HZ102
      iexact HZ112
    isplitl [HZ200 HZ210 HZ201 HZ211 HZ202 HZ212]
    · iapply (hk_join fun t => Dn c (some (2, t.1, t.2)))
      isplitl [HZ200]; · iexact HZ200
      isplitl [HZ210]; · iexact HZ210
      isplitl [HZ201]; · iexact HZ201
      isplitl [HZ211]; · iexact HZ211
      isplitl [HZ202]; · iexact HZ202
      iexact HZ212
    iapply (hk_join fun t => Dn c (some (3, t.1, t.2)))
    isplitl [HZ300]; · iexact HZ300
    isplitl [HZ310]; · iexact HZ310
    isplitl [HZ301]; · iexact HZ301
    isplitl [HZ311]; · iexact HZ311
    isplitl [HZ302]; · iexact HZ302
    iexact HZ312
  isplitl [H0 H1 H2 H3 H4]
  · isplitl [H0]; · iexact H0
    isplitl [H1]; · iexact H1
    isplitl [H2]; · iexact H2
    isplitl [H3]; · iexact H3
    iexact H4
  isplitl [HB0 HB1 HG300 HG310 HG301 HG311 HG302 HG312]
  · iapply (stg5_join I c)
    isplitl [HB0]; · iexact HB0
    isplitl [HB1]; · iexact HB1
    isplitl [HG300]; · iexact HG300
    isplitl [HG310]; · iexact HG310
    isplitl [HG301]; · iexact HG301
    isplitl [HG311]; · iexact HG311
    isplitl [HG302]; · iexact HG302
    iexact HG312
  isplitl [HG002 HG012 HG001 HG011 HG000 HG010]
  · iapply (scr0_join I c)
    isplitl [HG002]; · iexact HG002
    isplitl [HG012]; · iexact HG012
    isplitl [HG001]; · iexact HG001
    isplitl [HG011]; · iexact HG011
    isplitl [HG000]; · iexact HG000
    iexact HG010
  iapply (scr1_join I c)
  isplitl [HG100]; · iexact HG100
  isplitl [HG110]; · iexact HG110
  isplitl [HG101]; · iexact HG101
  isplitl [HG111]; · iexact HG111
  isplitl [HG102]; · iexact HG102
  iexact HG112

end Cert.Moe
-- ==== Proof.Moe.Cells.lean ====
/-
  What the launch mints and deals: the cells, their duties' tokens to the devices that pay them, the credit of every
  wait, and the counters back at zero at the end.
-/
module

public import proofs.«01_k».proof.Proof.Moe.Body
public import proofs.«01_k».proof.Proof.Gen.KernelIdeal.Launch

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Ins F)

/-! ## Enumerations -/

omit [FloatOps F] in
theorem bigSep_opt (P : Option CI → sProp 𝕄) : bigSep Finset.univ P = iprop(P none ∗ bigSep Finset.univ fun j : CI => P (some j)) := by
  rw [bigSep_univ_equiv ((Equiv.optionEquivSumPUnit CI).trans (Equiv.sumComm _ _)).symm, BI.bigSep_univ_sum,
    bigSep_univ_eq_bigSepL [(PUnit.unit : PUnit.{1})] (by decide) (by decide), bigSepL_singleton]
  rfl
omit [FloatOps F] in
theorem bigSep_ci (P : CI → sProp 𝕄) : bigSep Finset.univ P
    = iprop((bigSep Finset.univ fun t : HK => P (0, t)) ∗ (bigSep Finset.univ fun t : HK => P (1, t))
        ∗ (bigSep Finset.univ fun t : HK => P (2, t)) ∗ (bigSep Finset.univ fun t : HK => P (3, t))) := by
  rw [bigSep_univ_prod, bigSep_univ_eq_bigSepL [0, 1, 2, 3] (by decide) (by decide)]
  simp only [bigSepL_cons_cons, bigSepL_singleton]
  rfl
omit [FloatOps F] in
theorem bigSep_three (P : Fin 3 → sProp 𝕄) : bigSep Finset.univ P = iprop(P 0 ∗ P 1 ∗ P 2) := by
  rw [bigSep_univ_eq_bigSepL [0, 1, 2] (by decide) (by decide)]
  simp only [bigSepL_cons_cons, bigSepL_singleton]
  rfl
omit [FloatOps F] in
theorem bigSep_di (P : Fin 3 ⊕ CI → sProp 𝕄) : bigSep Finset.univ P
    = iprop((P (.inl 0) ∗ P (.inl 1) ∗ P (.inl 2)) ∗ bigSep Finset.univ fun j : CI => P (.inr j)) := by
  rw [BI.bigSep_univ_sum, bigSep_three]
  rfl

/-! ## The cells and duty tokens the launch mints -/

def moeCells : Finset (GSem nD τ sig) := Finset.univ.map ⟨kcell, kcell_inj⟩

/-- Which duty of a device's cells: one of its barrier's three, or a copy cell's only one. -/
abbrev DI : Type := Fin 3 ⊕ CI
def diCell : DI → Option CI
  | .inl _ => none
  | .inr j => some j
def diDuty : DI → Fin 3
  | .inl d => d
  | .inr _ => 0
def tokOf (x : Dev nD × DI) : GSem nD τ sig × ℕ × Fin 3 := (kcell (x.1, diCell x.2), 0, diDuty x.2)

theorem tokOf_inj : Function.Injective tokOf := by
  rintro ⟨c, a⟩ ⟨c', b⟩ h
  have h1 : (c, diCell a) = (c', diCell b) := kcell_inj (congrArg Prod.fst h)
  have h2 : diDuty a = diDuty b := congrArg (fun x : GSem nD τ sig × ℕ × Fin 3 => x.2.2) h
  have hc : c = c' := congrArg Prod.fst h1
  have hd : diCell a = diCell b := congrArg Prod.snd h1
  subst hc
  rcases a with d | j <;> rcases b with d' | j'
  · have : d = d' := h2
    rw [this]
  · cases hd
  · cases hd
  · have : j = j' := Option.some.inj hd
    rw [this]
def moeToks : Finset (GSem nD τ sig × ℕ × Fin 3) := Finset.univ.map ⟨tokOf, tokOf_inj⟩

def u₀ : UU := (initOf (Pipeline.cells cfgs cellOf_inj) (Pipeline.launchToks cfgs cellOf_inj), initOf moeCells moeToks)

/-- The duty tokens of device `c`'s own cells. -/
def toks (c : Dev nD) : sProp 𝕄 := bigSep Finset.univ fun a : DI => dutyTok ER (kcell (c, diCell a)) 0 (diDuty a)

/-- A device's cells with nothing paid, their positions, and their duty tokens. -/
def G (c : Dev nD) : sProp 𝕄 :=
  iprop((bigSep Finset.univ fun k : Option CI => roundState ER (moeRd I) (kcell (c, k)) 0)
    ∗ (bigSep Finset.univ fun k : Option CI => iprop(atPos ER (kcell (c, k)) 0 ∅ 0 ∗ reached ER (kcell (c, k)) 0)) ∗ toks c)

theorem fund_moe : BI.own (ER (initOf moeCells moeToks)) ⊢ (|==> bigSep Finset.univ (G I) : sProp 𝕄) := by
  have hX (Φ : GSem nD τ sig → sProp 𝕄) : bigSep moeCells Φ = bigSep Finset.univ fun c : Dev nD => bigSep Finset.univ fun k : Option CI => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => toks c := by
    unfold moeToks; rw [bigSep_map, bigSep_univ_prod]; rfl
  iintro HX
  imod (Rounds.fund ER (moeRd I) moeCells moeToks) $$ HX with ⟨Hst, Hr, Hat, Htok⟩
  imodintro
  ihave Hst' := (Entails.of_eq (hX fun g => roundState ER (moeRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The counters -/

omit [FloatOps F] in
/-- The barrier semaphore is the launch's one semaphore that no kernel owns. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option CI => semVal (kcell (c, k)) 0 : sProp 𝕄) := by
  rw [unscopedSems0_eq, bigSep_opt]
  unfold Pipeline.ownSems0
  iintro ⟨HS, HB⟩
  isplitl [HB]; · iexact HB
  iexact HS

/-- Every cell closed at zero: the kernel's own semaphores and the barrier's are back at zero. -/
theorem allDn_sems (c : Dev nD) :
    (allDn c : sProp 𝕄) ⊢ iprop(unscopedSems0 c ∗ Pipeline.ownSems0 (Ix := Unit) (Name := ℕ) (U := UU) (Lvl := ℕ) (Val := Elt F) (τ := τ) osem c) := by
  unfold allDn Pipeline.ownSems0
  rw [unscopedSems0_eq, bigSep_ci]
  unfold Dn
  iintro ⟨HB, H0, H1, H2, H3⟩
  isplitl [HB]; · iexact HB
  isplitl [H0]; · iexact H0
  isplitl [H1]; · iexact H1
  isplitl [H2]; · iexact H2
  iexact H3

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (moeRd I) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  have hinv : iprop((bigSep Finset.univ fun k : Option CI => semVal (kcell (c, k)) 0) ∗ bigSep Finset.univ fun k : Option CI => roundState ER (moeRd I) (kcell (c, k)) 0)
      ⊢ (|={Set.univ}=> bigSep Finset.univ fun k => iprop(∃ κ : ℕ, cellInv ER (moeRd I) κ (kcell (c, k))) : sProp 𝕄) := by
    rw [← bigSep_sep']
    exact (bigSep_mono fun k _ => (Rounds.body_intro ER (moeRd I) (kcell (c, k))).trans inv_alloc).trans (bigSep_fupd _ _)
  imod hinv $$ [Hv Hst] with Hinv
  · isplitl [Hv]; · iexact Hv
    iexact Hst
  imodintro
  isplitl [Hinv]; · iexact Hinv
  isplitl [Hat]; · iexact Hat
  iexact Htok

/-! ## The tokens dealt to the devices that pay -/

/-- Whose cell device `c` pays with its token of duty `a`. -/
def payE : DI → (Dev nD ≃ Dev nD)
  | .inl d => ringE d
  | .inr (1, _, k) => (ringE k).symm
  | .inr (3, _, k) => (ringE k).symm
  | .inr _ => Equiv.refl _

/-- The tokens of the duties device `c` pays. -/
def payToks (c : Dev nD) : sProp 𝕄 := bigSep Finset.univ fun a : DI => dutyTok ER (kcell (payE a c, diCell a)) 0 (diDuty a)

omit [FloatOps F] in
theorem bigSep_swap {A B : Type} [Fintype A] [Fintype B] (P : A → B → sProp 𝕄) :
    (bigSep Finset.univ fun a => bigSep Finset.univ fun b => P a b) = bigSep Finset.univ fun b => bigSep Finset.univ fun a => P a b := by
  rw [← bigSep_univ_prod (fun x : A × B => P x.1 x.2), ← bigSep_univ_prod (fun x : B × A => P x.2 x.1), bigSep_univ_equiv (Equiv.prodComm B A)]
  rfl
omit [FloatOps F] in
theorem toks_around : (bigSep Finset.univ fun c : Dev nD => (toks c : sProp 𝕄)) = bigSep Finset.univ fun c : Dev nD => payToks c := by
  unfold toks payToks
  rw [bigSep_swap, bigSep_swap (fun (c : Dev nD) (a : DI) => dutyTok ER (kcell (payE a c, diCell a)) 0 (diDuty a))]
  exact bigSep_congr fun a _ => bigSep_univ_equiv (payE a) _

/-- What the launch makes for device `c`: every cell's invariant and round, its own positions, the tokens it pays with. -/
def mine (K : Dev nD × Option CI → ℕ) (c : Dev nD) : sProp 𝕄 :=
  iprop((bigSep Finset.univ (fun ck : Dev nD × Option CI => iprop(cellInv ER (moeRd I) (K ck) (kcell ck) ∗ reached ER (kcell ck) 0)))
    ∗ (bigSep Finset.univ fun k : Option CI => atPos ER (kcell (c, k)) 0 ∅ 0) ∗ payToks c)
def G' (c : Dev nD) : sProp 𝕄 := iprop(∃ K, mine I K c)

omit [FloatOps F] in
theorem bigSep_beside {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (moeRd I) κ (kcell (c, k))))
          ∗ (bigSep Finset.univ fun k => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × Option CI => iprop(∃ κ : ℕ, cellInv ER (moeRd I) κ (kcell ck))),
    bigSep_congr (s := Finset.univ) (fun (c : Dev nD) _ => bigSep_sep' Finset.univ (fun k : Option CI => (atPos ER (kcell (c, k)) 0 ∅ 0 : sProp 𝕄)) (fun k => reached ER (kcell (c, k)) 0)),
    bigSep_sep', ← bigSep_univ_prod (fun ck : Dev nD × Option CI => (reached ER (kcell ck) 0 : sProp 𝕄)), toks_around]
  iintro ⟨HI, ⟨Hat, #HR⟩, Htok⟩
  ihave HK := (BI.bigSep_exists_pi Finset.univ (fun (ck : Dev nD × Option CI) (κ : ℕ) => (cellInv ER (moeRd I) κ (kcell ck) : sProp 𝕄))) $$ HI
  icases HK with ⟨%K, #HI⟩
  iapply (bigSep_beside (R := bigSep Finset.univ (fun ck : Dev nD × Option CI => iprop(cellInv ER (moeRd I) (K ck) (kcell ck) ∗ reached ER (kcell ck) 0)))
    (Φ := fun c : Dev nD => iprop((bigSep Finset.univ fun k : Option CI => atPos ER (kcell (c, k)) 0 ∅ 0) ∗ payToks c))
    fun c _ => by
      unfold G' mine
      iintro H
      iexists K
      iexact H)
  isplitr
  · rw [bigSep_sep']
    isplitl; · iexact HI
    iexact HR
  · rw [bigSep_sep']
    isplitl [Hat]; · iexact Hat
    iexact Htok

/-- Every device's counters and minted state, at once, become every device's share. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit the launch deals -/

/-- The own cell that an item of another device pays. -/
def rcell (c : Dev nD) : Item → GSem nD τ sig
  | .inl d => barCell c
  | .inr (false, h, k) => dCell c 1 h k
  | .inr (true, h, k) => dCell c 3 h k

omit [FloatOps F] in
theorem creds_item (x : Item) (c : Dev nD) :
    (Pipeline.launchCred (fun d => tallyAt (icell d x) () (iamt x)) c : sProp 𝕄) ⊢ cred (tallyAt (rcell c x) () (iamt x)) := by
  rcases x with d | ⟨b, h, k⟩
  · exact Pipeline.launchCred_tallyAt (.reg barS) (fun c => sr c d) (fun c => pe c d) (fun c => sr_pe c d) (fun c => pe_sr c d) () 1 c
  · cases b
    · exact Pipeline.launchCred_tallyAt (.dma (dsem 1 h k)) (fun c => pe c k) (fun c => sr c k) (fun c => pe_sr c k) (fun c => sr_pe c k) () N c
    · exact Pipeline.launchCred_tallyAt (.dma (dsem 3 h k)) (fun c => pe c k) (fun c => sr c k) (fun c => pe_sr c k) (fun c => sr_pe c k) () N c

omit [FloatOps F] in
theorem creds_list (c : Dev nD) (x : Item) (l : List Item) :
    (Pipeline.launchCred (fun d => debt d (x :: l)) c : sProp 𝕄) ⊢ bigSepL (x :: l) fun y => cred (tallyAt (rcell c y) () (iamt y)) := by
  induction l generalizing x with
  | nil =>
    rw [bigSepL_singleton]
    refine BIBase.Entails.trans (Entails.of_eq ?_) (creds_item x c)
    congr 1
    funext d
    exact zero_add _
  | cons y l ih =>
    rw [bigSepL_cons_cons]
    show _ ⊢ iprop(cred (tallyAt (rcell c x) () (iamt x)) ∗ bigSepL (y :: l) fun y => cred (tallyAt (rcell c y) () (iamt y)))
    refine BIBase.Entails.trans (Entails.of_eq (Pipeline.launchCred_add (fun d => debt d (y :: l)) (fun d => tallyAt (icell d x) () (iamt x)) c)) ?_
    iintro ⟨H1, H2⟩
    isplitl [H2]
    · iapply (creds_item x c); iexact H2
    · iapply (ih y); iexact H1

omit [FloatOps F] in
theorem bar_three (c : Dev nD) :
    iprop(cred (tallyAt (barCell c) () 1) ∗ cred (tallyAt (barCell c) () 1) ∗ cred (tallyAt (barCell c) () 1)) ⊢ (cred (tallyAt (barCell c) () 3) : sProp 𝕄) := by
  have h : (tallyAt (barCell c) () 3 : CellTallies nD τ sig Unit) = tallyAt (barCell c) () 1 + (tallyAt (barCell c) () 1 + tallyAt (barCell c) () 1) := by
    unfold tallyAt
    rw [← tallyOn_add, ← tallyOn_add, ← Finsupp.single_add, ← Finsupp.single_add]
    rfl
  rw [h]
  iintro ⟨H1, H2⟩
  iapply (cred_add _ _).2
  isplitl [H1]; · iexact H1
  iapply (cred_add _ _).2
  iexact H2

/-- What a device's waits spend: three units of its barrier, and a block's bytes at every arrival. -/
theorem creds (c : Dev nD) :
    (Pipeline.launchCred (fun d => debt d items) c : sProp 𝕄)
      ⊢ iprop(cred (tallyAt (barCell c) () 3) ∗ (bigSep Finset.univ fun t : HK => cred (tallyAt (dCell c 1 t.1 t.2) () N))
          ∗ (bigSep Finset.univ fun t : HK => cred (tallyAt (dCell c 3 t.1 t.2) () N))) := by
  unfold items
  refine BIBase.Entails.trans (creds_list c _ _) ?_
  simp only [bigSepL_cons_cons, bigSepL_singleton]
  show iprop(cred (tallyAt (barCell c) () 1) ∗ cred (tallyAt (barCell c) () 1) ∗ cred (tallyAt (barCell c) () 1)
      ∗ cred (tallyAt (dCell c 1 0 1) () N) ∗ cred (tallyAt (dCell c 1 1 1) () N) ∗ cred (tallyAt (dCell c 1 0 2) () N)
      ∗ cred (tallyAt (dCell c 1 1 2) () N) ∗ cred (tallyAt (dCell c 1 0 0) () N) ∗ cred (tallyAt (dCell c 1 1 0) () N)
      ∗ cred (tallyAt (dCell c 3 0 1) () N) ∗ cred (tallyAt (dCell c 3 0 2) () N) ∗ cred (tallyAt (dCell c 3 0 0) () N)
      ∗ cred (tallyAt (dCell c 3 1 1) () N) ∗ cred (tallyAt (dCell c 3 1 2) () N) ∗ cred (tallyAt (dCell c 3 1 0) () N)) ⊢ _
  iintro ⟨B0, B1, B2, P01, P11, P02, P12, P00, P10, O01, O02, O00, O11, O12, O10⟩
  isplitl [B0 B1 B2]
  · iapply (bar_three c)
    isplitl [B0]; · iexact B0
    isplitl [B1]; · iexact B1
    iexact B2
  isplitl [P01 P11 P02 P12 P00 P10]
  · iapply (hk_join (F := F) fun t : HK => cred (tallyAt (dCell c 1 t.1 t.2) () N))
    isplitl [P00]; · iexact P00
    isplitl [P10]; · iexact P10
    isplitl [P01]; · iexact P01
    isplitl [P11]; · iexact P11
    isplitl [P02]; · iexact P02
    iexact P12
  · iapply (hk_join (F := F) fun t : HK => cred (tallyAt (dCell c 3 t.1 t.2) () N))
    isplitl [O00]; · iexact O00
    isplitl [O10]; · iexact O10
    isplitl [O01]; · iexact O01
    isplitl [O11]; · iexact O11
    isplitl [O02]; · iexact O02
    iexact O12

/-- A device's share, its credit and the levels are what its body starts from. -/
theorem kits (K : Dev nD × Option CI → ℕ) (c : Dev nD) :
    iprop(mine I K c ∗ levAts L lv ∗ Pipeline.launchCred (fun d => debt d items) c) ⊢ iprop(records I K ∗ barKit c ∗ dmaKit c) := by
  unfold mine records barKit dmaKit Rdy Wt payToks
  rw [bigSep_opt, bigSep_di, bigSep_ci, bigSep_ci]
  simp only [bigSep_sep']
  iintro ⟨⟨HI, ⟨Hab, Ha0, Ha1, Ha2, Ha3⟩, Htb, Ht0, Ht1, Ht2, Ht3⟩, Hl, Hc⟩
  ihave Hc := (creds c) $$ Hc
  icases Hc with ⟨Hcb, Hc1, Hc3⟩
  isplitl [HI Hl]
  · isplitl [HI]; · iexact HI
    iexact Hl
  isplitl [Hab Htb Hcb]
  · isplitl [Htb]; · iexact Htb
    isplitl [Hcb]; · iexact Hcb
    iexact Hab
  isplitl [Ht0 Ht1 Ha0]
  · isplitl [Ht0]; · iexact Ht0
    isplitl [Ht1]; · iexact Ht1
    iexact Ha0
  isplitl [Ht2 Ht3 Ha2]
  · isplitl [Ht2]; · iexact Ht2
    isplitl [Ht3]; · iexact Ht3
    iexact Ha2
  isplitl [Hc1 Ha1]
  · isplitl [Hc1]; · iexact Hc1
    iexact Ha1
  isplitl [Hc3]; · iexact Hc3
  iexact Ha3

end Cert.Moe
-- ==== Proof.Moe.Launch.lean ====
/-
  The launch: its data, the body's obligation, and the run of the whole program.
-/
module

public import proofs.«01_k».proof.Proof.Moe.Cells
public import proofs.«01_k».proof.Proof.Gen.KernelIdeal.Points
public import Idealize.ShloMosaic.Lib.Pipeline.Launch
public import Idealize.ShloMosaic.Lib.Pipeline.CollectiveSegs
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The inputs of a launch -/

def s₀ : MemSt nD τ sig (Elt F) := ⟨m, fun _ => 0, ρ⟩

/-- Device `c`'s inputs, as launched. -/
def ins (c : Dev nD) : Ins F where
  x := (win0_0.blk (0 : Fin 1)).view.read (Elt F) ((s₀ m ρ).mem ((c : Thread nD τ).loc main_arg0))
  rw := (win0_1.blk (0 : Fin 1)).view.read (Elt F) ((s₀ m ρ).mem ((c : Thread nD τ).loc main_arg1))
  ix := (win0_2.blk (0 : Fin 1)).view.read (Elt F) ((s₀ m ρ).mem ((c : Thread nD τ).loc main_arg2))
  ew := (win0_3.blk (0 : Fin 1)).view.read (Elt F) ((s₀ m ρ).mem ((c : Thread nD τ).loc main_arg3))
  sw := (win0_4.blk (0 : Fin 1)).view.read (Elt F) ((s₀ m ρ).mem ((c : Thread nD τ).loc main_arg4))

/-! ## The launch's data -/

/-- What a device starts from besides its buffers. -/
def start (c : Dev nD) : sProp 𝕄 := iprop(∃ K, records (ins m ρ) K ∗ barKit c ∗ dmaKit c)
/-- The two scratch buffers, holding anything. -/
def scratch (c : Dev nD) : sProp 𝕄 := iprop((∃ X, ownsTc c scr0 fullShare X) ∗ (∃ X, ownsTc c scr1 fullShare X))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ c).x
    | ⟨1, _⟩ => (ins m ρ c).rw
    | ⟨2, _⟩ => (ins m ρ c).ix
    | ⟨3, _⟩ => (ins m ρ c).ew
    | ⟨4, _⟩ => (ins m ρ c).sw
    | ⟨5, _⟩ => OUT (ins m ρ)
    | ⟨_ + 6, h⟩ => absurd h (Nat.not_lt.2 (Nat.le_add_left _ _))
  Φ t := match t with
    | ⟨0, _⟩ => iprop(start m ρ c ∗ scratch c)
    | ⟨_ + 1, _⟩ => iprop(allDn c ∗ scratch c)
  q _ := fullShare
  owed t := match t with
    | ⟨0, _⟩ => debt c items
    | ⟨_ + 1, _⟩ => 0

theorem share_eq (c : Dev nD) (w : Fin cfg0.W) : (dats m ρ 0 c).share w = fullShare := by unfold Dat.share; split <;> rfl

/-! ## The body, as the launch calls it -/

/-- A whole buffer held at the contents `X`. -/
def whole (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

omit [FloatOps F] in
theorem whole_owns (c : Dev nD) (b : Ref sig .tc) (X) : (whole (F := F) c b X : sProp 𝕄) ⊢ ownsTc c (Memref.whole b) fullShare X := by
  unfold whole
  iintro ⟨%f, %hf, H⟩
  subst hf
  rw [show (ownsTc c (Memref.whole b) fullShare f : sProp 𝕄) = (((c : Thread nD τ).loc b) ↦{fullShare} f) from owns_whole _ _ _ _]
  iexact H
omit [FloatOps F] in
theorem owns_in_whole (c : Dev nD) (b : Ref sig .tc) (X) : (ownsTc c (Memref.whole b) fullShare X : sProp 𝕄) ⊢ whole (F := F) c b X := by
  unfold whole
  rw [show (ownsTc c (Memref.whole b) fullShare X : sProp 𝕄) = (((c : Thread nD τ).loc b) ↦{fullShare} X) from owns_whole _ _ _ _]
  iintro H
  iexists X
  isplitr; · (ipureintro; rfl)
  iexact H

theorem before_0 (c : Dev nD) (d) : (dats m ρ 0 c).before (0 : Fin 6) t0_0 d = (ins m ρ c).x := by
  unfold Dat.before; rw [if_pos (fetch0_0 t0_0)]; rfl
theorem before_1 (c : Dev nD) (d) : (dats m ρ 0 c).before (1 : Fin 6) t0_0 d = (ins m ρ c).rw := by
  unfold Dat.before; rw [if_pos (fetch0_1 t0_0)]; rfl
theorem before_2 (c : Dev nD) (d) : (dats m ρ 0 c).before (2 : Fin 6) t0_0 d = (ins m ρ c).ix := by
  unfold Dat.before; rw [if_pos (fetch0_2 t0_0)]; rfl
theorem before_3 (c : Dev nD) (d) : (dats m ρ 0 c).before (3 : Fin 6) t0_0 d = (ins m ρ c).ew := by
  unfold Dat.before; rw [if_pos (fetch0_3 t0_0)]; rfl
theorem before_4 (c : Dev nD) (d) : (dats m ρ 0 c).before (4 : Fin 6) t0_0 d = (ins m ρ c).sw := by
  unfold Dat.before; rw [if_pos (fetch0_4 t0_0)]; rfl

def bodyPre (c : Dev nD) : sProp 𝕄 :=
  iprop((start m ρ c ∗ scratch c) ∗ (dats m ρ 0 c).owesAt () t0_0.castSucc
    ∗ (∃ d, whole c cc0_stg0_0 ((dats m ρ 0 c).before (0 : Fin 6) t0_0 d))
    ∗ (∃ d, whole c cc0_stg1_0 ((dats m ρ 0 c).before (1 : Fin 6) t0_0 d))
    ∗ (∃ d, whole c cc0_stg2_0 ((dats m ρ 0 c).before (2 : Fin 6) t0_0 d))
    ∗ (∃ d, whole c cc0_stg3_0 ((dats m ρ 0 c).before (3 : Fin 6) t0_0 d))
    ∗ (∃ d, whole c cc0_stg4_0 ((dats m ρ 0 c).before (4 : Fin 6) t0_0 d))
    ∗ (∃ d, whole c cc0_stg5_0 ((dats m ρ 0 c).before (5 : Fin 6) t0_0 d)))
def bodyPost (c : Dev nD) : sProp 𝕄 :=
  iprop((allDn c ∗ scratch c) ∗ (dats m ρ 0 c).owesAt () t0_0.succ
    ∗ whole c cc0_stg0_0 (ins m ρ c).x
    ∗ whole c cc0_stg1_0 (ins m ρ c).rw
    ∗ whole c cc0_stg2_0 (ins m ρ c).ix
    ∗ whole c cc0_stg3_0 (ins m ρ c).ew
    ∗ whole c cc0_stg4_0 (ins m ρ c).sw
    ∗ whole c cc0_stg5_0 (OUT (ins m ρ)))

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body stg0 (Memref.isWhole_whole _) stg1 (Memref.isWhole_whole _) stg2 (Memref.isWhole_whole _) stg3 (Memref.isWhole_whole _) stg4 (Memref.isWhole_whole _) stg5 (Memref.isWhole_whole _) scr0 (Memref.isWhole_whole _) scr1 (Memref.isWhole_whole _) cc0_scratch2 cc0_scratch3 cc0_scratch4 cc0_scratch5) (fun _ => bodyPost m ρ c)
  unfold bodyPre start scratch
  iintro ⟨⟨⟨%K, HR, HB, HD⟩, HS0, HS1⟩, Ho, ⟨%d0, H0⟩, ⟨%d1, H1⟩, ⟨%d2, H2⟩, ⟨%d3, H3⟩, ⟨%d4, H4⟩, ⟨%d5, H5⟩⟩
  rw [before_0, before_1, before_2, before_3, before_4]
  unfold Dat.owesAt Pipeline.owesWithin
  icases Ho with ⟨%W, %hW, HO⟩
  ihave H0 := (whole_owns c cc0_stg0_0 _) $$ H0
  ihave H1 := (whole_owns c cc0_stg1_0 _) $$ H1
  ihave H2 := (whole_owns c cc0_stg2_0 _) $$ H2
  ihave H3 := (whole_owns c cc0_stg3_0 _) $$ H3
  ihave H4 := (whole_owns c cc0_stg4_0 _) $$ H4
  ihave H5 := (whole_owns c cc0_stg5_0 _) $$ H5
  iapply (body_run (ins m ρ) K c (Q := fun _ => bodyPost m ρ c)) $$ [HR HB HD HS0 HS1 HO H0 H1 H2 H3 H4 H5]
  · isplitl [HR]; · iexact HR
    isplitl [HO]; · unfold ow; iexists W; iexact HO
    isplitl [HB]; · iexact HB
    isplitl [HD]; · iexact HD
    isplitl [H0 H1 H2 H3 H4]
    · unfold insOwn
      isplitl [H0]; · iexact H0
      isplitl [H1]; · iexact H1
      isplitl [H2]; · iexact H2
      isplitl [H3]; · iexact H3
      iexact H4
    isplitl [H5]; · iexists _; iexact H5
    isplitl [HS0]; · iexact HS0
    iexact HS1
  unfold insOwn ow
  iintro ⟨⟨%W', HO⟩, HZ, ⟨H0, H1, H2, H3, H4⟩, H5, HS0, HS1⟩
  unfold bodyPost scratch Dat.owesAt Pipeline.owesWithin
  isplitl [HZ HS0 HS1]
  · isplitl [HZ]; · iexact HZ
    isplitl [HS0]; · iexact HS0
    iexact HS1
  isplitl [HO]
  · iexists W'
    isplitr; · ipureintro; exact fun _ _ => Or.inl trivial
    iexact HO
  isplitl [H0]; · iapply (owns_in_whole c cc0_stg0_0 (ins m ρ c).x); iexact H0
  isplitl [H1]; · iapply (owns_in_whole c cc0_stg1_0 (ins m ρ c).rw); iexact H1
  isplitl [H2]; · iapply (owns_in_whole c cc0_stg2_0 (ins m ρ c).ix); iexact H2
  isplitl [H3]; · iapply (owns_in_whole c cc0_stg3_0 (ins m ρ c).ew); iexact H3
  isplitl [H4]; · iapply (owns_in_whole c cc0_stg4_0 (ins m ρ c).sw); iexact H4
  iapply (owns_in_whole c cc0_stg5_0 (OUT (ins m ρ))); iexact H5

/-! ## The launch -/

theorem ownSemFacts : Pipeline.OwnSemFacts cfg0.spec osem := by decide

theorem start_intro (c : Dev nD) :
    iprop(Pipeline.unscopedRestP Pipeline.Prefetch.none cfg0.spec c (fun b => m ((c : Thread nD τ).loc b)) ∗ levAts L lv
        ∗ Pipeline.launchCred (fun d => debt d items) c ∗ prngReg c (ρ c) ∗ G' (ins m ρ) c)
      ⊢ |={Set.univ}=> iprop(start m ρ c ∗ emp) := by
  unfold G'
  iintro ⟨-, Hlev, Hcr, -, ⟨%K, HG⟩⟩
  imodintro
  isplitl
  · unfold start
    iexists K
    iapply (kits (ins m ρ) K c)
    isplitl [HG]; · iexact HG
    isplitl [Hlev]; · iexact Hlev
    iexact Hcr
  · iempintro

theorem scratch_of (c : Dev nD) : (Pipeline.scopedRest cfg0.spec c : sProp 𝕄) = scratch (F := F) c := by
  rw [scopedRest0_eq]
  unfold scratch
  simp only [owns_whole]
  rfl

theorem first_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scratch c) from rfl, scratch_of]
  iintro ⟨Hs, -, Hr⟩
  isplitl [Hs]; · iexact Hs
  iexact Hr

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(allDn c ∗ scratch c) from rfl, scratch_of]
  iintro ⟨Hz, Hr⟩
  ihave Hz := (allDn_sems c) $$ Hz
  icases Hz with ⟨Hu, Ho⟩
  isplitl [Hu]; · iexact Hu
  isplitl [Ho]; · iexact Ho
  iexact Hr

omit [FloatOps F] in
theorem mayWait_stage (c : Dev nD) (q : DmaSem sig) (hq : ∀ j : CI, q ≠ dsem j.1 j.2.1 j.2.2) (O : CellTallies nD τ sig Unit) (hO : O = debt c items ∨ O = 0) :
    (levAts L lv : sProp 𝕄) ⊢ MayWait (c : Thread nD τ) (.dma q) () O := by
  rcases hO with rfl | rfl
  · have hz : lvOf (cix (.dma q)) = 0 := by
      unfold cix
      rw [dif_neg]
      · rfl
      · rintro ⟨a, ha⟩
        rcases a with _ | j
        · cases ha
        · exact hq j (SemLoc.dma.inj ha).symm
    exact mayWait_of c _ items 0 hz (by decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On the mesh of four devices, for any float values, from any memory with every counter at zero: every fair run of the
    kernel ends, with each window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt d items) (howed₀ := fun _ => rfl) (howedN := fun _ => rfl)
    (L := L) (lv := lv) (hL := L_of_ne) (hwaits := waits m ρ)
    (G := G (ins m ρ)) (G' := G' (ins m ρ)) (u₀ := u₀)
    (hu₀ := by
      unfold u₀
      iintro Hu
      ihave H := (ownU_pair _ _) $$ Hu
      icases H with ⟨HP, HX⟩
      imod (fund_moe (ins m ρ)) $$ HX with HG
      imodintro
      isplitl [HP] <;> iassumption)
    (hglob := glob (ins m ρ))
    (hA := fun _ _ => rfl) (hpf := fun _ k => k.elim0)
    (X := start m ρ) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe
-- ==== Proof.Moe.Frames.lean ====
/-
  What the run leaves: the argument arrays as they were, and the result array holding the device's output.
-/
module

public import proofs.«01_k».proof.Proof.Moe.Launch
public import proofs.«01_k».proof.Defs
public import proofs.«01_k».proof.Proof.Gen.Kernel
public import proofs.«01_k».proof.Proof.Gen.ReferenceIdeal
public import proofs.«01_k».proof.Proof.Gen.ReferenceIdeal.Run

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The arrays after the run -/

/-- An input window's array holds after the run what it held before it. -/
theorem end_in (c : Dev nD) (w : Fin cfg0.W) (hw : (cfg0.win w).isOut = false) :
    (dats m ρ 0 c).arrAt w cfg0.N = (s₀ m ρ).mem ((cfg0.win w).arr.view.loc (c : Thread nD τ)) :=
  (dats m ρ 0 c).arrAt_in w hw _

/-- The output window's one block, read back after the run, is the output. -/
theorem end_out (c : Dev nD) :
    (win0_5.blk (0 : Fin 1)).view.read (Elt F) ((dats m ρ 0 c).arrAt (5 : Fin 6) cfg0.N) = OUT (ins m ρ) := by
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- Each device's inputs are the argument arrays as they were before the run. -/
theorem ins_eq (c : Dev nD) : ins m ρ c =
    { x := m ((c : Thread nD τ).loc main_arg0), rw := m ((c : Thread nD τ).loc main_arg1), ix := m ((c : Thread nD τ).loc main_arg2),
      ew := m ((c : Thread nD τ).loc main_arg3), sw := m ((c : Thread nD τ).loc main_arg4) } := by
  have h0 := fun f => Memref.read_access_unit_zero (Elt F) main_arg0 (off := fun a => (win0_0.index (0 : Fin 1)) a * main_arg0.ty.shape.size a)
    (funext fun a => by fin_cases a <;> decide) (fun a => by fin_cases a <;> decide) f
  have h1 := fun f => Memref.read_access_unit_zero (Elt F) main_arg1 (off := fun a => (win0_1.index (0 : Fin 1)) a * main_arg1.ty.shape.size a)
    (funext fun a => by fin_cases a <;> decide) (fun a => by fin_cases a <;> decide) f
  have h2 := fun f => Memref.read_access_unit_zero (Elt F) main_arg2 (off := fun a => (win0_2.index (0 : Fin 1)) a * main_arg2.ty.shape.size a)
    (funext fun a => by fin_cases a <;> decide) (fun a => by fin_cases a <;> decide) f
  have h3 := fun f => Memref.read_access_unit_zero (Elt F) main_arg3 (off := fun a => (win0_3.index (0 : Fin 1)) a * main_arg3.ty.shape.size a)
    (funext fun a => by fin_cases a <;> decide) (fun a => by fin_cases a <;> decide) f
  have h4 := fun f => Memref.read_access_unit_zero (Elt F) main_arg4 (off := fun a => (win0_4.index (0 : Fin 1)) a * main_arg4.ty.shape.size a)
    (funext fun a => by fin_cases a <;> decide) (fun a => by fin_cases a <;> decide) f
  unfold ins s₀
  congr 1
  · exact h0 _
  · exact h1 _
  · exact h2 _
  · exact h3 _
  · exact h4 _

/-- Every execution of the program terminates; on each device the result array ends holding the output, the five
    argument arrays end as they were, and every counter ends at zero. -/
theorem run_args : θ_run defs (onTc (τ := τ) (main (F := F))) (s₀ m ρ) (fun r => (∀ c : Dev nD,
      r.2.mem ((c : Thread nD τ).loc main_v1) = OUT (ins m ρ)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) := by
  refine (θ_run defs _ _).mono (fun r h => ⟨fun c => ⟨?_, (h.1 c (0 : Fin 6)).trans (end_in m ρ c _ rfl), (h.1 c (1 : Fin 6)).trans (end_in m ρ c _ rfl),
    (h.1 c (2 : Fin 6)).trans (end_in m ρ c _ rfl), (h.1 c (3 : Fin 6)).trans (end_in m ρ c _ rfl), (h.1 c (4 : Fin 6)).trans (end_in m ρ c _ rfl)⟩, h.2⟩) (run_main m ρ)
  have hr := Memref.read_access_unit_zero (Elt F) main_v1 (off := fun a => (win0_5.index (0 : Fin 1)) a * main_v1.ty.shape.size a)
    (funext fun a => by fin_cases a <;> decide) (fun a => by fin_cases a <;> decide) (r.2.mem ((c : Thread nD τ).loc main_v1))
  have ho := end_out m ρ c
  rw [← h.1 c (5 : Fin 6)] at ho
  exact hr.symm.trans ho

/-! ## The three frames -/

/-- Every execution terminates, leaving the five argument arrays as they were and every counter at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun r h => ⟨fun c => (h.1 c).2, h.2⟩) (run_args m ρ)

/-- The two printings of the kernel have one body. -/
theorem body_table : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) =>
    dsimp only []
    rfl
  | ⟨_ + 1, h⟩, _ => exact absurd h (Nat.not_lt.2 (Nat.le_add_left _ _))

/-- The two printings of the kernel have one table of labels. -/
theorem label_table : @Cert.Kernel.defs Bits _ Cert.Kernel.Gen.facts = @Cert.KernelIdeal.defs Bits _ Cert.KernelIdeal.Gen.facts := by
  unfold Cert.Kernel.defs Cert.KernelIdeal.defs
  rw [body_table]
  rfl

/-- The kernel as printed runs, leaves its arguments unchanged, and ends with every counter at zero. -/
theorem frame_kernel : Cert.quiescent_Kernel := fun m ρ _ => by
  rw [label_table]
  exact run_frame (F := Bits) m ρ

/-- So does the kernel read over the extended reals. -/
theorem frame_ideal : Cert.quiescent_KernelIdeal := fun m ρ _ =>
  run_frame (F := Ideal) m ρ

/-- So does the reference read over the extended reals: no operation of it writes an argument, and it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Moe
-- ==== Proof.Moe.Pays.lean ====
/-
  The kernel's values over the extended reals, read at an index.
-/
module

public import proofs.«01_k».proof.Proof.Moe.Sched
public import Idealize.ShloMosaic.Lib.Pointwise
public import Idealize.ShloMosaic.Lib.WordCmp

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Choices and bits -/

/-- A choice on the equality of two words. -/
theorem select_eq {α : Type} {n : ℕ} (a b : BitVec n) (u v : α) :
    Scalar.select (IntOp.cmpi .eq a b) u v = if a = b then u else v := by
  by_cases h : a = b
  · subst h; rw [if_pos rfl]; unfold IntOp.cmpi; simp [Scalar.select]
  · rw [if_neg h]; unfold IntOp.cmpi; simp [Scalar.select, beq_eq_false_iff_ne.2 h]

/-- The word of minus infinity reads as the least element. -/
theorem ofBits_bot : Ideal.ofBits .f32 0xFF800000#32 = (⊥ : EReal) := by
  simp [Ideal.ofBits, Ideal.ieee]

/-! ## The router -/

/-- The score of token `t` for expert `e`. -/
def score (x : Vec Ideal S512x256 .bf16) (rw : Vec Ideal S256x16 .bf16) (t : Fin 512) (e : Fin 16) : EReal :=
  ∑ k : Fin 256, x (ix2 t k) * rw (ix2 k e)
/-- The greatest score of token `t`. -/
def top (x : Vec Ideal S512x256 .bf16) (rw : Vec Ideal S256x16 .bf16) (t : Fin 512) : EReal :=
  Finset.univ.fold max ⊥ fun e : Fin 16 => score x rw t e
/-- The probability of expert `e` for token `t`. -/
def prob (x : Vec Ideal S512x256 .bf16) (rw : Vec Ideal S256x16 .bf16) (t : Fin 512) (e : Fin 16) : EReal :=
  Ideal.div (Ideal.exp (score x rw t e - top x rw t)) (∑ e' : Fin 16, Ideal.exp (score x rw t e' - top x rw t))
/-- The weight of token `t` for the expert number `g`: the probability if the token chose it, else 0. -/
def weight (p : Fin 512 → Fin 16 → EReal) (ix : Vec Ideal S512x1 .i32) (g : BitVec 32) (t : Fin 512) : EReal :=
  if ix (ix2 t 0) = g then ∑ e : Fin 16, (if BitVec.ofNat 32 e.val = ix (ix2 t 0) then p t e else 0) else 0

/-- The tokens as the kernel keeps them are the tokens. -/
theorem pay1_eq (x : Vec Ideal S512x256 .bf16) (t : Fin 512) (k : Fin 256) : k0_pay1 x (ix2 t k) = x (ix2 t k) := by
  pointwise [k0_pay1]

/-- The router's probabilities. -/
theorem pay2_eq (x : Vec Ideal S512x256 .bf16) (rw : Vec Ideal S256x16 .bf16) (t : Fin 512) (e : Fin 16) :
    k0_pay2 x rw (ix2 t e) = prob x rw t e := by
  unfold prob top score
  rw [← ofBits_bot]
  pointwise [k0_pay2, k0_pay1]
  done

/-! ## The scaled tokens -/

/-- The tokens scaled for the device's expert 0. -/
theorem pay5_eq (g : BitVec 32) (x : FVec Ideal S512x256 .bf16) (p : FVec Ideal S512x16 .f32) (ix : Vec Ideal S512x1 .i32) (t : Fin 512) (k : Fin 256) :
    k0_pay5 g x p ix (ix2 t k) = x (ix2 t k) * weight (fun t e => p (ix2 t e)) ix (g * 4#32 + 0#32) t := by
  unfold weight
  simp only [← select_eq]
  pointwise [k0_pay5, k0_pay4, k0_pay3]
  rfl

/-- The tokens scaled for the device's expert 1. -/
theorem pay6_eq (g : BitVec 32) (x : FVec Ideal S512x256 .bf16) (p : FVec Ideal S512x16 .f32) (ix : Vec Ideal S512x1 .i32) (t : Fin 512) (k : Fin 256) :
    k0_pay6 g x p ix (ix2 t k) = x (ix2 t k) * weight (fun t e => p (ix2 t e)) ix (g * 4#32 + 1#32) t := by
  unfold weight
  simp only [← select_eq]
  pointwise [k0_pay6, k0_pay4, k0_pay3]
  rfl

/-- The tokens scaled for the device's expert 2. -/
theorem pay7_eq (g : BitVec 32) (x : FVec Ideal S512x256 .bf16) (p : FVec Ideal S512x16 .f32) (ix : Vec Ideal S512x1 .i32) (t : Fin 512) (k : Fin 256) :
    k0_pay7 g x p ix (ix2 t k) = x (ix2 t k) * weight (fun t e => p (ix2 t e)) ix (g * 4#32 + 2#32) t := by
  unfold weight
  simp only [← select_eq]
  pointwise [k0_pay7, k0_pay4, k0_pay3]
  rfl

/-- The tokens scaled for the device's expert 3. -/
theorem pay8_eq (g : BitVec 32) (x : FVec Ideal S512x256 .bf16) (p : FVec Ideal S512x16 .f32) (ix : Vec Ideal S512x1 .i32) (t : Fin 512) (k : Fin 256) :
    k0_pay8 g x p ix (ix2 t k) = x (ix2 t k) * weight (fun t e => p (ix2 t e)) ix (g * 4#32 + 3#32) t := by
  unfold weight
  simp only [← select_eq]
  pointwise [k0_pay8, k0_pay4, k0_pay3]
  rfl

/-! ## The sums -/

/-- One expert's share of a column block at a row and a column: the tokens scaled, times its weights. -/
def term (a : FVec Ideal S512x256 .bf16) (w : Vec Ideal S1x256x128 .bf16) (t : Fin 512) (j : Fin 128) : EReal :=
  ∑ k : Fin 256, a (ix2 t k) * w (ix3 0 k j)

/-- The four experts' share of a column block, as a slot sends it. -/
theorem pay13_eq (a b c d : FVec Ideal S512x256 .bf16) (e f g h : Vec Ideal S1x256x128 .bf16) (t : Fin 512) (j : Fin 128) :
    k0_pay13 a b c d e f g h (ix3 0 t j) = ((term a e t j + term b f t j) + term c g t j) + term d h t j := by
  unfold term
  pointwise [k0_pay13]
  done

/-- The four experts' share of a column block, as a slot sends it. -/
theorem pay9_eq (a b c d : FVec Ideal S512x256 .bf16) (e f g h : Vec Ideal S1x256x128 .bf16) (t : Fin 512) (j : Fin 128) :
    k0_pay9 a b c d e f g h (ix3 0 t j) = ((term a e t j + term b f t j) + term c g t j) + term d h t j := by
  unfold term
  pointwise [k0_pay9]
  done

/-- The four experts' share of a column block, as slot 2 sends it. -/
theorem pay12_eq (a b c d : FVec Ideal S512x256 .bf16) (e f g h : Vec Ideal S1x256x128 .bf16) (t : Fin 512) (j : Fin 128) :
    k0_pay12 c d (k0_pay10 a b e f) (k0_pay11 g) (constant S512x128 .f32 0x00000000#32) h (ix3 0 t j)
      = ((term a e t j + term b f t j) + term c g t j) + term d h t j := by
  unfold term
  pointwise [k0_pay12, k0_pay10, k0_pay11]
  done

/-- A device's own share of its columns, with the shared expert. -/
theorem pay15_eq (x a b c d : FVec Ideal S512x256 .bf16) (e f g h : Vec Ideal S1x256x128 .bf16) (sw : Vec Ideal S256x128 .bf16) (t : Fin 512) (j : Fin 128) :
    k0_pay15 x d (k0_pay14 a b c e f g) h sw (ix2 t j)
      = (((term a e t j + term b f t j) + term c g t j) + term d h t j) + ∑ k : Fin 256, x (ix2 t k) * sw (ix2 k j) := by
  unfold term
  pointwise [k0_pay15, k0_pay14]
  done

/-- The results in the first half of the rows. -/
theorem out0_eq (x a b c d : FVec Ideal S512x256 .bf16) (e f g h : Vec Ideal S1x256x128 .bf16) (sw : Vec Ideal S256x128 .bf16)
    (u v w : Vec Ideal S1x256x128 .bf16) (r : Fin 256) (j : Fin 128) :
    k0_pay17 (k0_pay16 x d (k0_pay14 a b c e f g) h sw u) v w (ix2 r j)
      = ((k0_pay15 x d (k0_pay14 a b c e f g) h sw (ix2 (⟨r.val, by omega⟩ : Fin 512) j) + u (ix3 0 r j)) + v (ix3 0 r j)) + w (ix3 0 r j) := by
  pointwise [k0_pay17, k0_pay16]
  done

/-- The results in the second half of the rows. -/
theorem out1_eq (o : FVec Ideal S512x128 .f32) (u v w : Vec Ideal S1x256x128 .bf16) (r : Fin 256) (j : Fin 128) :
    k0_pay20 (k0_pay18 o u) (k0_pay19 v) w (ix2 r j)
      = ((o (ix2 (⟨256 + r.val, by omega⟩ : Fin 512) j) + u (ix3 0 r j)) + v (ix3 0 r j)) + w (ix3 0 r j) := by
  pointwise [k0_pay20, k0_pay18, k0_pay19]
  done

end Cert.Moe
-- ==== Proof.Moe.Arith.lean ====
/-
  The arithmetic of the extended reals the equality rests on: finite scores give finite, nonnegative
  probabilities, and such a probability moves out of a sum.
-/
module

public import proofs.«01_k».proof.Proof.Moe.Pays

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Finite values -/

/-- A sum of real numbers is a real number. -/
theorem sum_real {n : ℕ} (f : Fin n → EReal) (h : ∀ k, ∃ r : ℝ, f k = r) : ∃ r : ℝ, ∑ k, f k = r := by
  choose g hg using h
  refine ⟨∑ k, g k, ?_⟩
  have hs : ∀ s : Finset (Fin n), ∑ k ∈ s, f k = ((∑ k ∈ s, g k : ℝ) : EReal) := fun s => by
    induction s using Finset.induction_on with
    | empty => simp
    | insert a s ha ih => rw [Finset.sum_insert ha, Finset.sum_insert ha, ih, hg a, EReal.coe_add]
  exact hs _

/-- A score of finite tokens and finite router weights is a real number. -/
theorem score_real (x : Vec Ideal S512x256 .bf16) (rw : Vec Ideal S256x16 .bf16) (hx : ∀ i, ∃ r : ℝ, x i = (r : EReal))
    (hw : ∀ i, ∃ r : ℝ, rw i = (r : EReal)) (t : Fin 512) (e : Fin 16) : ∃ r : ℝ, score x rw t e = r := by
  refine sum_real _ fun k => ?_
  obtain ⟨a, ha⟩ := hx (ix2 t k)
  obtain ⟨b, hb⟩ := hw (ix2 k e)
  exact ⟨a * b, by rw [ha, hb, EReal.coe_mul]⟩

/-- So is the greatest score of a token. -/
theorem top_real (x : Vec Ideal S512x256 .bf16) (rw : Vec Ideal S256x16 .bf16) (hs : ∀ t e, ∃ r : ℝ, score x rw t e = r) (t : Fin 512) :
    ∃ r : ℝ, top x rw t = r := by
  have h1 : top x rw t < ⊤ := by
    refine (Finset.fold_max_lt _).2 ⟨bot_lt_top, fun e _ => ?_⟩
    obtain ⟨r, hr⟩ := hs t e
    rw [hr]; exact EReal.coe_lt_top r
  have h2 : ⊥ < top x rw t := by
    obtain ⟨r, hr⟩ := hs t 0
    refine lt_of_lt_of_le (EReal.bot_lt_coe r) ?_
    rw [← hr]
    exact (Finset.le_fold_max _).2 (Or.inr ⟨0, Finset.mem_univ _, le_rfl⟩)
  exact ⟨(top x rw t).toReal, (EReal.coe_toReal h1.ne h2.ne').symm⟩

/-- A probability of finite tokens and finite router weights is a nonnegative real number. -/
theorem prob_real (x : Vec Ideal S512x256 .bf16) (rw : Vec Ideal S256x16 .bf16) (hx : ∀ i, ∃ r : ℝ, x i = (r : EReal))
    (hw : ∀ i, ∃ r : ℝ, rw i = (r : EReal)) (t : Fin 512) (e : Fin 16) : ∃ q : ℝ, 0 ≤ q ∧ prob x rw t e = q := by
  have hs := score_real x rw hx hw
  obtain ⟨b, hb⟩ := top_real x rw hs t
  have he : ∀ e, ∃ r : ℝ, 0 < r ∧ Ideal.exp (score x rw t e - top x rw t) = r := fun e => by
    obtain ⟨a, ha⟩ := hs t e
    exact ⟨Real.exp (a - b), Real.exp_pos _, by rw [ha, hb, ← EReal.coe_sub]; rfl⟩
  choose g hg0 hg using he
  have hsum : ∑ e', Ideal.exp (score x rw t e' - top x rw t) = ((∑ e', g e' : ℝ) : EReal) := by
    have h : ∀ s : Finset (Fin 16), ∑ e' ∈ s, Ideal.exp (score x rw t e' - top x rw t) = ((∑ e' ∈ s, g e' : ℝ) : EReal) := fun s => by
      induction s using Finset.induction_on with
      | empty => simp
      | insert a s ha ih => rw [Finset.sum_insert ha, Finset.sum_insert ha, ih, hg a, EReal.coe_add]
    exact h _
  have hpos : 0 < ∑ e', g e' := Finset.sum_pos (fun e _ => hg0 e) ⟨0, Finset.mem_univ _⟩
  refine ⟨g e * (∑ e', g e')⁻¹, mul_nonneg (hg0 e).le (inv_nonneg.2 hpos.le), ?_⟩
  unfold prob
  rw [hsum, hg e]
  unfold Ideal.div
  rw [if_neg (by rw [← EReal.coe_zero]; exact fun h => hpos.ne' (EReal.coe_injective h)), EReal.coe_mul, EReal.coe_inv]

/-! ## Sums -/

/-- A nonnegative real factor moves out of a sum of extended reals. -/
theorem sum_scale {n : ℕ} (q : ℝ) (hq : 0 ≤ q) (f : Fin n → EReal) : ∑ k, (q : EReal) * f k = (q : EReal) * ∑ k, f k := by
  have h : ∀ s : Finset (Fin n), ∑ k ∈ s, (q : EReal) * f k = (q : EReal) * ∑ k ∈ s, f k := fun s => by
    induction s using Finset.induction_on with
    | empty => simp
    | insert a s ha ih =>
      rw [Finset.sum_insert ha, Finset.sum_insert ha, ih,
        EReal.left_distrib_of_nonneg_of_ne_top (EReal.coe_nonneg.2 hq) (EReal.coe_ne_top q)]
  exact h _

/-- The share of the expert `g` in the result at a row and a column: the scaled tokens times its weights. -/
def share (p : Fin 512 → Fin 16 → EReal) (x : Vec Ideal S512x256 .bf16) (ix : Vec Ideal S512x1 .i32) (W : Fin 256 → EReal) (g : Fin 16) (t : Fin 512) : EReal :=
  ∑ k : Fin 256, (x (ix2 t k) * weight p ix (BitVec.ofNat 32 g.val) t) * W k

theorem ofNat_inj (g e : Fin 16) : BitVec.ofNat 32 g.val = BitVec.ofNat 32 e.val ↔ g = e := by revert g e; decide

/-- The weight for a token that chose expert `e`. -/
theorem weight_chosen (p : Fin 512 → Fin 16 → EReal) (ix : Vec Ideal S512x1 .i32) (t : Fin 512) (e : Fin 16)
    (h : ix (ix2 t 0) = BitVec.ofNat 32 e.val) (g : Fin 16) :
    weight p ix (BitVec.ofNat 32 g.val) t = if g = e then p t e else 0 := by
  unfold weight
  rw [h]
  by_cases hg : g = e
  · subst hg
    rw [if_pos rfl, if_pos rfl]
    simp only [ofNat_inj]
    rw [Finset.sum_ite_eq' Finset.univ g (fun e => p t e), if_pos (Finset.mem_univ _)]
  · rw [if_neg hg, if_neg fun h => hg ((ofNat_inj _ _).1 h).symm]

/-- The sixteen experts' shares for a token that chose expert `e`: its probability times the expert's product. -/
theorem shares_chosen (p : Fin 512 → Fin 16 → EReal) (x : Vec Ideal S512x256 .bf16) (ix : Vec Ideal S512x1 .i32) (W : Fin 16 → Fin 256 → EReal)
    (t : Fin 512) (e : Fin 16) (h : ix (ix2 t 0) = BitVec.ofNat 32 e.val) (hp : ∃ q : ℝ, 0 ≤ q ∧ p t e = q) :
    ∑ g, share p x ix (W g) g t = p t e * ∑ k : Fin 256, x (ix2 t k) * W e k := by
  obtain ⟨q, hq, hpq⟩ := hp
  rw [Finset.sum_eq_single e]
  · unfold share
    rw [weight_chosen p ix t e h e, if_pos rfl, hpq, ← sum_scale q hq]
    refine Finset.sum_congr rfl fun k _ => ?_
    rw [mul_comm (x _) (q : EReal), mul_assoc]
  · intro g _ hg
    unfold share
    rw [weight_chosen p ix t e h g, if_neg hg]
    simp
  · exact fun h => absurd (Finset.mem_univ _) h

/-- The sixteen experts' shares for a token that chose none: nothing. -/
theorem shares_none (p : Fin 512 → Fin 16 → EReal) (x : Vec Ideal S512x256 .bf16) (ix : Vec Ideal S512x1 .i32) (W : Fin 16 → Fin 256 → EReal)
    (t : Fin 512) (h : ∀ e : Fin 16, ix (ix2 t 0) ≠ BitVec.ofNat 32 e.val) :
    ∑ g, share p x ix (W g) g t = 0 := by
  refine Finset.sum_eq_zero fun g _ => ?_
  unfold share weight
  rw [if_neg (h g)]
  simp

end Cert.Moe
-- ==== Proof.Moe.Value.lean ====
/-
  The kernel's result over the extended reals, read at an index: the shared expert's product and
  the sixteen experts' shares.
-/
module

public import proofs.«01_k».proof.Proof.Moe.Body
public import proofs.«01_k».proof.Proof.Moe.Arith
public import Idealize.ShloMosaic.Lib.Layout

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The whole arrays: the tokens, the router's weights, the choices, the sixteen experts, the shared expert. -/
structure Whole where
  x : Vec Ideal S512x256 .bf16
  rw : Vec Ideal S256x16 .bf16
  ix : Vec Ideal S512x1 .i32
  ew : Vec Ideal ⟨3, ![16, 256, 512]⟩ .bf16
  sw : Vec Ideal S256x512 .bf16

/-- What device `c` holds of the whole arrays: its four experts, and the rest whole. -/
def parts (A : Whole) (c : Dev nD) : Ins Ideal where
  x := A.x
  rw := A.rw
  ix := A.ix
  ew := Layout.block ⟨3, ![4, 256, 512]⟩ ⟨3, ![16, 256, 512]⟩ 0 4 c A.ew
  sw := A.sw

variable (A : Whole)

/-- Expert `le` of device `d`, among the sixteen. -/
def expert (d : Dev nD) (le : Fin 4) : Fin 16 := ⟨4 * d.val + le.val, by have h : d.val < 4 := d.isLt; omega⟩
/-- Column `j` of device `o`'s columns, among the 512. -/
def col (o : Dev nD) (j : Fin 128) : Fin 512 := ⟨128 * o.val + j.val, by have h : o.val < 4 := o.isLt; omega⟩
/-- Row `r` of half `h` of the rows. -/
def row (h : Fin 2) (r : Fin 256) : Fin 512 := ⟨256 * h.val + r.val, by omega⟩

/-! ## One expert's share -/

/-- A device's slice of its experts' weights, in the whole array. -/
theorem wcol_eq (d : Dev nD) (le : Fin 4) (o : Dev nD) (k : Fin 256) (j : Fin 128) :
    wcol (parts A d).ew le o (ix3 0 k j) = A.ew (ix3 (expert d le) k (col o j)) := by
  unfold wcol parts
  dsimp only []
  rw [Layout.block_apply]
  refine congrArg A.ew (funext fun a => Fin.ext ?_)
  obtain rfl | rfl | rfl : a = (0 : Fin 3) ∨ a = (1 : Fin 3) ∨ a = (2 : Fin 3) := by revert a; decide
  · show d.val * 4 + (le.val + 1 * 0) = 4 * d.val + le.val
    omega
  · show 0 + 1 * k.val = k.val
    omega
  · show 128 * o.val + 1 * j.val = 128 * o.val + j.val
    omega

/-- The shared expert's weights in a device's columns, in the whole array. -/
theorem scol_eq (d o : Dev nD) (k : Fin 256) (j : Fin 128) : scol (parts A d).sw o (ix2 k j) = A.sw (ix2 k (col o j)) := by
  unfold scol parts
  dsimp only []
  refine congrArg A.sw (funext fun a => Fin.ext ?_)
  obtain rfl | rfl : a = (0 : Fin 2) ∨ a = (1 : Fin 2) := by revert a; decide
  · show 0 + 1 * k.val = k.val
    omega
  · show 128 * o.val + 1 * j.val = 128 * o.val + j.val
    omega

/-- The share of expert `g` in the result at a row and a column. -/
def shareOf (g : Fin 16) (t j : Fin 512) : EReal :=
  share (prob A.x A.rw) A.x A.ix (fun k => A.ew (ix3 g k j)) g t

theorem pr_eq (d : Dev nD) : (fun t e => pr (parts A) d (ix2 t e)) = prob A.x A.rw := by
  funext t e
  exact pay2_eq A.x A.rw t e

theorem xs_eq (d : Dev nD) (t : Fin 512) (k : Fin 256) : xs (parts A) d (ix2 t k) = A.x (ix2 t k) := pay1_eq A.x t k

theorem word0 (d : Dev nD) : v2w d * 4#32 + 0#32 = BitVec.ofNat 32 (expert d 0).val := by revert d; decide

/-- What expert 0 of a device adds to a column block. -/
theorem term0 (d o : Dev nD) (t : Fin 512) (j : Fin 128) :
    term (xe0 (parts A) d) (wcol (parts A d).ew 0 o) t j = shareOf A (expert d 0) t (col o j) := by
  unfold term shareOf share xe0
  refine Finset.sum_congr rfl fun k _ => ?_
  rw [pay5_eq, wcol_eq, pr_eq, xs_eq, word0]
  rfl

theorem word1 (d : Dev nD) : v2w d * 4#32 + 1#32 = BitVec.ofNat 32 (expert d 1).val := by revert d; decide

/-- What expert 1 of a device adds to a column block. -/
theorem term1 (d o : Dev nD) (t : Fin 512) (j : Fin 128) :
    term (xe1 (parts A) d) (wcol (parts A d).ew 1 o) t j = shareOf A (expert d 1) t (col o j) := by
  unfold term shareOf share xe1
  refine Finset.sum_congr rfl fun k _ => ?_
  rw [pay6_eq, wcol_eq, pr_eq, xs_eq, word1]
  rfl

theorem word2 (d : Dev nD) : v2w d * 4#32 + 2#32 = BitVec.ofNat 32 (expert d 2).val := by revert d; decide

/-- What expert 2 of a device adds to a column block. -/
theorem term2 (d o : Dev nD) (t : Fin 512) (j : Fin 128) :
    term (xe2 (parts A) d) (wcol (parts A d).ew 2 o) t j = shareOf A (expert d 2) t (col o j) := by
  unfold term shareOf share xe2
  refine Finset.sum_congr rfl fun k _ => ?_
  rw [pay7_eq, wcol_eq, pr_eq, xs_eq, word2]
  rfl

theorem word3 (d : Dev nD) : v2w d * 4#32 + 3#32 = BitVec.ofNat 32 (expert d 3).val := by revert d; decide

/-- What expert 3 of a device adds to a column block. -/
theorem term3 (d o : Dev nD) (t : Fin 512) (j : Fin 128) :
    term (xe3 (parts A) d) (wcol (parts A d).ew 3 o) t j = shareOf A (expert d 3) t (col o j) := by
  unfold term shareOf share xe3
  refine Finset.sum_congr rfl fun k _ => ?_
  rw [pay8_eq, wcol_eq, pr_eq, xs_eq, word3]
  rfl

/-! ## A column block -/

/-- What device `d`'s experts add to the result at a row and a column. -/
def part (d : Dev nD) (t j : Fin 512) : EReal :=
  ((shareOf A (expert d 0) t j + shareOf A (expert d 1) t j) + shareOf A (expert d 2) t j) + shareOf A (expert d 3) t j

/-- What a device sends in slot `k`. -/
theorem PV_eq (d : Dev nD) (k : Fin 3) (t : Fin 512) (j : Fin 128) : PV (parts A) d k (ix3 0 t j) = part A d t (col (pe d k) j) := by
  unfold part
  rw [← term0, ← term1, ← term2, ← term3]
  obtain rfl | rfl | rfl : k = (0 : Fin 3) ∨ k = (1 : Fin 3) ∨ k = (2 : Fin 3) := by revert k; decide
  · exact pay13_eq ..
  · exact pay9_eq ..
  · exact pay12_eq ..

/-- What a device receives in slot `k` is the sender's share of its columns. -/
theorem RV_eq (c : Dev nD) (k : Fin 3) (h : Fin 2) (r : Fin 256) (j : Fin 128) :
    RV (parts A) (sr c k) k h (ix3 0 r j) = part A (sr c k) (row h r) (col c j) := by
  have he : (rectH h).emb (ix3 0 r j) = ix3 0 (row h r) j := by
    funext a
    apply Fin.ext
    obtain rfl | rfl | rfl : a = (0 : Fin 3) ∨ a = (1 : Fin 3) ∨ a = (2 : Fin 3) := by revert a; decide
    · rfl
    · show 256 * h.val + 1 * r.val = 256 * h.val + r.val
      omega
    · show 0 + 1 * j.val = j.val
      omega
  unfold RV
  rw [he, PV_eq, pe_sr]

/-- The shared expert's product at a row and a column. -/
def shared (t j : Fin 512) : EReal := ∑ k : Fin 256, A.x (ix2 t k) * A.sw (ix2 k j)

/-- A device's own share of its columns. -/
theorem own_eq (c : Dev nD) (t : Fin 512) (j : Fin 128) :
    own (parts A) c (ix2 t j) = part A c t (col c j) + shared A t (col c j) := by
  unfold part shared
  rw [← term0, ← term1, ← term2, ← term3]
  refine (pay15_eq ..).trans ?_
  refine congrArg _ (Finset.sum_congr rfl fun k _ => ?_)
  rw [xs_eq, scol_eq]

/-- The result at a row and a column: the shared expert's product and the sixteen experts' shares. -/
def total (t j : Fin 512) : EReal := shared A t j + ∑ g, shareOf A g t j

/-- The sixteen experts, device by device. -/
theorem experts_sum (f : Fin 16 → EReal) : ∑ g, f g = ∑ d : Fin 4, (((f (expert d 0) + f (expert d 1)) + f (expert d 2)) + f (expert d 3)) := by
  have h16 : ∑ g, f g = f 0 + (f 1 + (f 2 + (f 3 + (f 4 + (f 5 + (f 6 + (f 7 + (f 8 + (f 9 + (f 10 + (f 11 + (f 12 + (f 13 + (f 14 + f 15)))))))))))))) := by
    simp only [Fin.sum_univ_succ, Fin.sum_univ_zero, add_zero]
    rfl
  have h4 : ∑ d : Fin 4, (((f (expert d 0) + f (expert d 1)) + f (expert d 2)) + f (expert d 3))
      = (f 0 + f 1 + f 2 + f 3) + ((f 4 + f 5 + f 6 + f 7) + ((f 8 + f 9 + f 10 + f 11) + (f 12 + f 13 + f 14 + f 15))) := by
    simp only [Fin.sum_univ_succ, Fin.sum_univ_zero, add_zero]
    rfl
  rw [h16, h4]
  simp only [add_assoc]

/-- Any order of the devices sums all sixteen experts. -/
theorem parts_sum (c : Dev nD) (t j : Fin 512) :
    (((part A c t j + shared A t j) + part A (sr c 2) t j) + part A (sr c 0) t j) + part A (sr c 1) t j = total A t j := by
  have hd : ∑ g, shareOf A g t j = part A 0 t j + (part A 1 t j + (part A 2 t j + part A 3 t j)) := by
    rw [experts_sum fun g => shareOf A g t j]
    simp only [Fin.sum_univ_succ, Fin.sum_univ_zero, add_zero]
    rfl
  have hs : ∀ p : Dev nD → EReal, (((p c + shared A t j) + p (sr c 2)) + p (sr c 0)) + p (sr c 1) = shared A t j + (p 0 + (p 1 + (p 2 + p 3))) := fun p => by
    obtain rfl | rfl | rfl | rfl : c = (0 : Fin 4) ∨ c = (1 : Fin 4) ∨ c = (2 : Fin 4) ∨ c = (3 : Fin 4) := by revert c; decide
    · show (((p 0 + shared A t j) + p 3) + p 1) + p 2 = _
      ac_rfl
    · show (((p 1 + shared A t j) + p 0) + p 2) + p 3 = _
      ac_rfl
    · show (((p 2 + shared A t j) + p 1) + p 3) + p 0 = _
      ac_rfl
    · show (((p 3 + shared A t j) + p 2) + p 0) + p 1 = _
      ac_rfl
  unfold total
  rw [hd]
  exact hs fun d => part A d t j

/-- The block of results device `c` computes in half `h` of the rows. -/
theorem OUTX_eq (c : Dev nD) (h : Fin 2) (r : Fin 256) (j : Fin 128) :
    OUTX (parts A) c h (ix2 r j) = total A (row h r) (col c j) := by
  rw [← parts_sum A c, ← own_eq]
  obtain rfl | rfl : h = (0 : Fin 2) ∨ h = (1 : Fin 2) := by revert h; decide
  · have hr : row 0 r = (⟨r.val, by omega⟩ : Fin 512) := Fin.ext (by show 256 * 0 + r.val = r.val; omega)
    rw [← RV_eq, ← RV_eq, ← RV_eq, hr]
    exact out0_eq ..
  · have hr : row 1 r = (⟨256 + r.val, by omega⟩ : Fin 512) := Fin.ext (by show 256 * 1 + r.val = 256 + r.val; omega)
    rw [← RV_eq, ← RV_eq, ← RV_eq, hr]
    exact out1_eq ..

/-- The kernel's result. -/
theorem OUT_eq (t j : Fin 512) : OUT (parts A) (ix2 t j) = total A t j := by
  have h := OUTX_eq A (⟨j.val / 128, by omega⟩ : Fin 4) (⟨t.val / 256, by omega⟩ : Fin 2) (⟨t.val % 256, by omega⟩ : Fin 256) (⟨j.val % 128, by omega⟩ : Fin 128)
  have ht : row (⟨t.val / 256, by omega⟩ : Fin 2) (⟨t.val % 256, by omega⟩ : Fin 256) = t :=
    Fin.ext (by show 256 * (t.val / 256) + t.val % 256 = t.val; omega)
  have hj : col (⟨j.val / 128, by omega⟩ : Fin 4) (⟨j.val % 128, by omega⟩ : Fin 128) = j :=
    Fin.ext (by show 128 * (j.val / 128) + j.val % 128 = j.val; omega)
  rw [ht, hj] at h
  refine Eq.trans ?_ h
  unfold OUT outV
  refine congrArg (OUTX (parts A) _ _) (funext fun a => ?_)
  obtain rfl | rfl : a = (0 : Fin 2) ∨ a = (1 : Fin 2) := by revert a; decide
  · rfl
  · rfl

end Cert.Moe
-- ==== Proof.Moe.Refer.lean ====
/-
  The reference's result over the extended reals, read at an index.
-/
module

public import proofs.«01_k».proof.Proof.Moe.Pays
public import proofs.«01_k».proof.Proof.Gen.ReferenceIdeal.Run

@[expose] public section

noncomputable section

namespace Cert.Moe

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The reference's result, in named parts -/

/-- The router's probabilities. -/
def probR (x : Vec Ideal S512x256 .bf16) (rw : Vec Ideal S256x16 .bf16) : FVec Ideal S512x16 .f32 :=
  Host.divf (Host.exp (subf (Host.dotGeneral dot_S512x256_S256x16_S512x16_1_0_0_1_n_n none (extf .f32 x bitsLt_bf16_f32) (extf .f32 rw bitsLt_bf16_f32)) (broadcastInDim S512x16 ![0, 1] bcast_S512x1_S512x16_0_1 (broadcastInDim S512x1 ![0] bcast_S512_S512x1_0 (Host.reduce FloatOps.maximumf (Host.dotGeneral dot_S512x256_S256x16_S512x16_1_0_0_1_n_n none (extf .f32 x bitsLt_bf16_f32) (extf .f32 rw bitsLt_bf16_f32)) (constant S_ .f32 0xFF800000#32) reducesTo_S512x16_S512_d1 h_S_))))) (broadcastInDim S512x16 ![0, 1] bcast_S512x1_S512x16_0_1 (broadcastInDim S512x1 ![0] bcast_S512_S512x1_0 (Host.reduceAdd (Host.exp (subf (Host.dotGeneral dot_S512x256_S256x16_S512x16_1_0_0_1_n_n none (extf .f32 x bitsLt_bf16_f32) (extf .f32 rw bitsLt_bf16_f32)) (broadcastInDim S512x16 ![0, 1] bcast_S512x1_S512x16_0_1 (broadcastInDim S512x1 ![0] bcast_S512_S512x1_0 (Host.reduce FloatOps.maximumf (Host.dotGeneral dot_S512x256_S256x16_S512x16_1_0_0_1_n_n none (extf .f32 x bitsLt_bf16_f32) (extf .f32 rw bitsLt_bf16_f32)) (constant S_ .f32 0xFF800000#32) reducesTo_S512x16_S512_d1 h_S_))))) (constant S_ .f32 0x00000000#32) reducesTo_S512x16_S512_d1 h_S_)))

/-- The chosen expert's number, a negative one counted from the end; as the probabilities' gather takes it. -/
def wrapR (ix : Vec Ideal S512x1 .i32) : IVec S512x1x1 32 :=
  shapeCast S512x1x1 (select (cmpi .slt ix (broadcastInDim S512x1 ![] bcast_S_S512x1 (constantI S_ 32 0#32))) (addi ix (broadcastInDim S512x1 ![] bcast_S_S512x1 (constantI S_ 32 16#32))) ix) shapeCasts_S512x1_S512x1x1

/-- The same, as the products' gather takes it. -/
def wrapR' (ix : Vec Ideal S512x1 .i32) : IVec S512x1x1 32 :=
  select (cmpi .slt (broadcastInDim S512x1x1 ![0, 1] bcast_S512x1_S512x1x1_0_1 ix) (broadcastInDim S512x1x1 ![] bcast_S_S512x1x1 (constantI S_ 32 0#32))) (addi (broadcastInDim S512x1x1 ![0, 1] bcast_S512x1_S512x1x1_0_1 ix) (broadcastInDim S512x1x1 ![] bcast_S_S512x1x1 (constantI S_ 32 16#32))) (broadcastInDim S512x1x1 ![0, 1] bcast_S512x1_S512x1x1_0_1 ix)

/-- Whether the choice names an expert. -/
def validR (ix : Vec Ideal S512x1 .i32) : IVec S512x1 1 :=
  andi (cmpi .sge ix (broadcastInDim S512x1 ![] bcast_S_S512x1 (constantI S_ 32 0#32))) (cmpi .slt ix (broadcastInDim S512x1 ![] bcast_S_S512x1 (constantI S_ 32 16#32)))

/-- Every token through every expert. -/
def routedR (x : Vec Ideal S512x256 .bf16) (ew : Vec Ideal S16x256x512 .bf16) : FVec Ideal S512x16x512 .f32 :=
  Host.dotGeneral dot_S512x256_S16x256x512_S512x16x512_1_1_0_02_n_n none (extf .f32 x bitsLt_bf16_f32) (extf .f32 ew bitsLt_bf16_f32)

/-- The reference's result. -/
def refOut (x : Vec Ideal S512x256 .bf16) (rw : Vec Ideal S256x16 .bf16) (ix : Vec Ideal S512x1 .i32) (ew : Vec Ideal S16x256x512 .bf16)
    (sw : Vec Ideal S256x512 .bf16) : FVec Ideal S512x512 .bf16 :=
  truncf .bf16 (addf (Host.dotGeneral dot_S512x256_S256x512_S512x512_1_0_0_1_n_n none (extf .f32 x bitsLt_bf16_f32) (extf .f32 sw bitsLt_bf16_f32)) (mulf (broadcastInDim S512x512 ![0, 1] bcast_S512x1_S512x512_0_1 (select (validR ix) (Host.gather gather_S512x16_S512x1x1_S512x1_n_1_0_0_1_2_11 (probR x rw) (wrapR ix)) (broadcastInDim S512x1 ![] bcast_S_S512x1 (constant S_ .f32 0x00000000#32)))) (shapeCast _ (Host.gather gather_S512x16x512_S512x1x1_S512x1x512_2_1_0_0_1_2_11512 (routedR x ew) (wrapR' ix)) shapeCasts_S512x1x512_S512x512))) bitsLt_bf16_f32

/-! ## The parts, read -/

/-- The reference's probabilities are the kernel's. -/
theorem probR_eq (x : Vec Ideal S512x256 .bf16) (rw : Vec Ideal S256x16 .bf16) (t : Fin 512) (e : Fin 16) :
    probR x rw (ix2 t e) = prob x rw t e := by
  unfold prob top score
  rw [← ofBits_bot]
  pointwise [probR]
  done

/-- A token through an expert. -/
theorem routedR_eq (x : Vec Ideal S512x256 .bf16) (ew : Vec Ideal S16x256x512 .bf16) (t : Fin 512) (e : Fin 16) (j : Fin 512) :
    routedR x ew (ix3 t e j) = ∑ k : Fin 256, x (ix2 t k) * ew (ix3 e k j) := by
  pointwise [routedR]
  done

theorem wrapR_eq (ix : Vec Ideal S512x1 .i32) (t : Fin 512) :
    wrapR ix (ix3 t 0 0) = Scalar.select (IntOp.cmpi .slt (ix (ix2 t 0)) 0#32) (IntOp.addi (ix (ix2 t 0)) 16#32) (ix (ix2 t 0)) := by
  pointwise [wrapR]
  done

theorem wrapR'_eq (ix : Vec Ideal S512x1 .i32) (t : Fin 512) :
    wrapR' ix (ix3 t 0 0) = Scalar.select (IntOp.cmpi .slt (ix (ix2 t 0)) 0#32) (IntOp.addi (ix (ix2 t 0)) 16#32) (ix (ix2 t 0)) := by
  pointwise [wrapR']
  done

theorem validR_eq (ix : Vec Ideal S512x1 .i32) (t : Fin 512) :
    validR ix (ix2 t 0) = IntOp.andi (IntOp.cmpi .sge (ix (ix2 t 0)) 0#32) (IntOp.cmpi .slt (ix (ix2 t 0)) 16#32) := by
  pointwise [validR]
  done

theorem siIdx_row (t : Fin 512) (c : Fin gather_S512x16_S512x1x1_S512x1_n_1_0_0_1_2_11.startIndexMap.length) :
    gather_S512x16_S512x1x1_S512x1_n_1_0_0_1_2_11.siIdx (ix2 t 0) c = ix3 t 0 0 := by
  funext b
  obtain rfl | rfl | rfl : b = (0 : Fin 3) ∨ b = (1 : Fin 3) ∨ b = (2 : Fin 3) := by revert b; decide
  · apply Fin.ext
    unfold GatherDims.siIdx
    rw [dif_neg (by decide)]
    simp [GatherDims.siCoord]
    rfl
  · exact Subsingleton.elim (α := Fin 1) _ _
  · exact Subsingleton.elim (α := Fin 1) _ _

theorem siIdx_product (t j : Fin 512) (c : Fin gather_S512x16x512_S512x1x1_S512x1x512_2_1_0_0_1_2_11512.startIndexMap.length) :
    gather_S512x16x512_S512x1x1_S512x1x512_2_1_0_0_1_2_11512.siIdx (ix3 t 0 j) c = ix3 t 0 0 := by
  funext b
  obtain rfl | rfl | rfl : b = (0 : Fin 3) ∨ b = (1 : Fin 3) ∨ b = (2 : Fin 3) := by revert b; decide
  · apply Fin.ext
    unfold GatherDims.siIdx
    rw [dif_neg (by decide)]
    simp [GatherDims.siCoord]
    rfl
  · exact Subsingleton.elim (α := Fin 1) _ _
  · exact Subsingleton.elim (α := Fin 1) _ _

/-- The probabilities' gather reads a row at the expert named, at most 15. -/
theorem gather_row {α : Type} (v : S512x16.Idx → α) (idx : IVec S512x1x1 32) (t : Fin 512) :
    Host.gather gather_S512x16_S512x1x1_S512x1_n_1_0_0_1_2_11 v idx (ix2 t 0)
      = v (ix2 t (⟨min (idx (ix3 t 0 0)).toInt.toNat 15, by omega⟩ : Fin 16)) := by
  unfold Host.gather
  congr 1
  funext a
  obtain rfl | rfl : a = (0 : Fin 2) ∨ a = (1 : Fin 2) := by revert a; decide
  · apply Fin.ext
    simp only [GatherDims.operandIdx, GatherDims.start, GatherDims.batchCoord, GatherDims.offCoord]
    rw [dif_neg (by decide), dif_pos (by decide), dif_neg (by decide)]
    simp [GatherDims.siCoord]
    rfl
  · apply Fin.ext
    simp only [GatherDims.operandIdx, GatherDims.start, GatherDims.batchCoord, GatherDims.offCoord]
    rw [dif_pos (by decide), dif_neg (by decide), dif_neg (by decide), siIdx_row]
    rfl

/-- The products' gather reads a row's product with the expert named, at most 15. -/
theorem gather_product {α : Type} (v : S512x16x512.Idx → α) (idx : IVec S512x1x1 32) (t : Fin 512) (j : Fin 512) :
    Host.gather gather_S512x16x512_S512x1x1_S512x1x512_2_1_0_0_1_2_11512 v idx (ix3 t 0 j)
      = v (ix3 t (⟨min (idx (ix3 t 0 0)).toInt.toNat 15, by omega⟩ : Fin 16) j) := by
  unfold Host.gather
  congr 1
  funext a
  obtain rfl | rfl | rfl : a = (0 : Fin 3) ∨ a = (1 : Fin 3) ∨ a = (2 : Fin 3) := by revert a; decide
  · apply Fin.ext
    simp only [GatherDims.operandIdx, GatherDims.start, GatherDims.batchCoord, GatherDims.offCoord]
    rw [dif_neg (by decide), dif_pos (by decide), dif_neg (by decide)]
    simp [GatherDims.siCoord]
    rfl
  · apply Fin.ext
    simp only [GatherDims.operandIdx, GatherDims.start, GatherDims.batchCoord, GatherDims.offCoord]
    rw [dif_pos (by decide), dif_neg (by decide), dif_neg (by decide), siIdx_product]
    rfl
  · apply Fin.ext
    simp only [GatherDims.operandIdx, GatherDims.start, GatherDims.batchCoord, GatherDims.offCoord]
    rw [dif_neg (by decide), dif_neg (by decide), dif_pos (by decide)]
    simp

/-- The reference's result at a row and a column. -/
theorem refOut_eq (x : Vec Ideal S512x256 .bf16) (rw : Vec Ideal S256x16 .bf16) (ix : Vec Ideal S512x1 .i32) (ew : Vec Ideal S16x256x512 .bf16)
    (sw : Vec Ideal S256x512 .bf16) (t j : Fin 512) :
    refOut x rw ix ew sw (ix2 t j) = (∑ k : Fin 256, x (ix2 t k) * sw (ix2 k j))
      + Scalar.select (validR ix (ix2 t 0)) (Host.gather gather_S512x16_S512x1x1_S512x1_n_1_0_0_1_2_11 (probR x rw) (wrapR ix) (ix2 t 0)) 0
        * Host.gather gather_S512x16x512_S512x1x1_S512x1x512_2_1_0_0_1_2_11512 (routedR x ew) (wrapR' ix) (ix3 t 0 j) := by
  pointwise [refOut]
  done

/-! ## The two cases -/

/-- A word that names one of the sixteen experts, or none of them. -/
theorem named (w : BitVec 32) (h : IntOp.andi (IntOp.cmpi .sge w 0#32) (IntOp.cmpi .slt w 16#32) = 1#1) :
    ∃ e : Fin 16, w = BitVec.ofNat 32 e.val := by
  have h1 : (0#32).sle w = true ∧ w.slt 16#32 = true := by
    have h2 : BitVec.ofBool ((0#32).sle w) &&& BitVec.ofBool (w.slt 16#32) = 1#1 := h
    revert h2
    cases (0#32).sle w <;> cases w.slt 16#32 <;> decide
  obtain ⟨ha, hb⟩ := h1
  simp only [BitVec.sle, BitVec.slt, decide_eq_true_eq] at ha hb
  have hz : (0#32).toInt = 0 := by decide
  have hs : (16#32).toInt = 16 := by decide
  rw [hz] at ha
  rw [hs] at hb
  have hn := BitVec.toInt_eq_toNat_cond w
  have hl := w.isLt
  have hw : w.toNat < 16 := by split at hn <;> omega
  refine ⟨⟨w.toNat, hw⟩, ?_⟩
  apply BitVec.eq_of_toNat_eq
  rw [BitVec.toNat_ofNat]
  exact (Nat.mod_eq_of_lt hl).symm

theorem named_word (e : Fin 16) :
    IntOp.andi (IntOp.cmpi .sge (BitVec.ofNat 32 e.val) 0#32) (IntOp.cmpi .slt (BitVec.ofNat 32 e.val) 16#32) = 1#1 := by
  revert e; decide

theorem named_wrap (e : Fin 16) :
    Scalar.select (IntOp.cmpi .slt (BitVec.ofNat 32 e.val) 0#32) (IntOp.addi (BitVec.ofNat 32 e.val) 16#32) (BitVec.ofNat 32 e.val) = BitVec.ofNat 32 e.val := by
  revert e; decide

theorem named_clamp (e : Fin 16) : min (BitVec.ofNat 32 e.val).toInt.toNat 15 = e.val := by revert e; decide

/-- The reference's result for a token that chose expert `e`. -/
theorem refOut_chosen (x : Vec Ideal S512x256 .bf16) (rw : Vec Ideal S256x16 .bf16) (ix : Vec Ideal S512x1 .i32) (ew : Vec Ideal S16x256x512 .bf16)
    (sw : Vec Ideal S256x512 .bf16) (t j : Fin 512) (e : Fin 16) (h : ix (ix2 t 0) = BitVec.ofNat 32 e.val) :
    refOut x rw ix ew sw (ix2 t j) = (∑ k : Fin 256, x (ix2 t k) * sw (ix2 k j))
      + prob x rw t e * ∑ k : Fin 256, x (ix2 t k) * ew (ix3 e k j) := by
  rw [refOut_eq, validR_eq, gather_row, gather_product, probR_eq, routedR_eq]
  have h1 : (⟨min (wrapR ix (ix3 t 0 0)).toInt.toNat 15, by omega⟩ : Fin 16) = e := by
    apply Fin.ext
    show min (wrapR ix (ix3 t 0 0)).toInt.toNat 15 = e.val
    rw [wrapR_eq, h, named_wrap, named_clamp]
  have h2 : (⟨min (wrapR' ix (ix3 t 0 0)).toInt.toNat 15, by omega⟩ : Fin 16) = e := by
    apply Fin.ext
    show min (wrapR' ix (ix3 t 0 0)).toInt.toNat 15 = e.val
    rw [wrapR'_eq, h, named_wrap, named_clamp]
  rw [h1, h2, h, named_word]
  rfl

/-- The reference's result for a token that chose no expert: the shared expert's. -/
theorem refOut_none (x : Vec Ideal S512x256 .bf16) (rw : Vec Ideal S256x16 .bf16) (ix : Vec Ideal S512x1 .i32) (ew : Vec Ideal S16x256x512 .bf16)
    (sw : Vec Ideal S256x512 .bf16) (t j : Fin 512) (h : ∀ e : Fin 16, ix (ix2 t 0) ≠ BitVec.ofNat 32 e.val) :
    refOut x rw ix ew sw (ix2 t j) = ∑ k : Fin 256, x (ix2 t k) * sw (ix2 k j) := by
  rw [refOut_eq, validR_eq]
  have hv : ∀ v : BitVec 1, v ≠ 1#1 → v = 0#1 := by decide
  rw [hv _ fun h1 => (named _ h1).elim fun e he => h e he]
  show _ + (0 : EReal) * _ = _
  rw [zero_mul, add_zero]

end Cert.Moe
-- ==== Proof.Moe.Algebraic.lean ====
/-
  The kernel's result is the reference's, for finite tokens and finite router weights.
-/
module

public import proofs.«01_k».proof.Proof.Moe.Frames
public import proofs.«01_k».proof.Proof.Moe.Value
public import proofs.«01_k».proof.Proof.Moe.Refer
public import proofs.«01_k».proof.Defs
public import Idealize.ShloMosaic.Lib.ReduceAll

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The precondition -/

instance pre_kernel_facts : Cert.Pre_finite_router_KernelIdeal.Facts where
  bcast_S_S512x256 := by decide
  reducesTo_S512x256_S_d0_1 := by decide
  h_S_ := by decide
  bcast_S_S256x16 := by decide
  reducesTo_S256x16_S_d0_1 := by decide

instance pre_reference_facts : Cert.Pre_finite_router_ReferenceIdeal.Facts where
  bcast_S_S512x256 := by decide
  reducesTo_S512x256_S_d0_1 := by decide
  h_S_ := by decide
  bcast_S_S256x16 := by decide
  reducesTo_S256x16_S_d0_1 := by decide

/-- The word of infinity reads as the greatest element. -/
theorem ofBits_top : Ideal.ofBits .bf16 0x7F80#16 = (⊤ : EReal) := by
  simp [Ideal.ofBits, Ideal.ieee]

/-- A value whose magnitude is below infinity is a real number. -/
theorem real_of_abs (v : EReal) (h : Ideal.cmp .olt (max v (-v)) ⊤ = 1#1) : ∃ r : ℝ, v = r := by
  have hlt : max v (-v) < ⊤ := by
    by_contra hn
    unfold Ideal.cmp at h
    simp [hn] at h
  have h1 : v ≠ ⊤ := (lt_of_le_of_lt (le_max_left _ _) hlt).ne
  have h2 : v ≠ ⊥ := fun hb => by
    have := lt_of_le_of_lt (le_max_right v (-v)) hlt
    rw [hb, EReal.neg_bot] at this
    exact lt_irrefl _ this
  exact ⟨v.toReal, (EReal.coe_toReal h1 h2).symm⟩

/-- The precondition says that every token's entries and every router weight are real numbers. -/
theorem finite_of_pre (x : Vec Ideal S512x256 .bf16) (rw : Vec Ideal S256x16 .bf16) (ix : Vec Ideal S512x1 .i32) (ew : Vec Ideal S4x256x512 .bf16)
    (sw : Vec Ideal S256x512 .bf16) (h : Cert.Pre_finite_router_KernelIdeal.fn (F := Ideal) x rw ix ew sw = fun _ => 1#1) :
    (∀ i, ∃ r : ℝ, x i = (r : EReal)) ∧ ∀ i, ∃ r : ℝ, rw i = (r : EReal) := by
  have h0 := congrFun h ix0
  have hand : ∀ a b : BitVec 1, a &&& b = 1#1 → a = 1#1 ∧ b = 1#1 := by decide
  obtain ⟨ha, hb⟩ := hand _ _ h0
  haveI : Subsingleton Cert.Pre_finite_router_KernelIdeal.S_.Idx := ⟨fun a b => funext fun k => k.elim0⟩
  refine ⟨fun i => ?_, fun i => ?_⟩
  · have hi := Host.reduce_andi_all _ _ _ _ _ ha i
    refine real_of_abs _ ?_
    rw [← ofBits_top]
    exact hi
  · have hi := Host.reduce_andi_all _ _ _ _ _ hb i
    refine real_of_abs _ ?_
    rw [← ofBits_top]
    exact hi

/-! ## The two results -/

/-- The kernel's result on the parts of whole arrays is the reference's on the whole arrays. -/
theorem OUT_refOut (A : Whole) (hx : ∀ i, ∃ r : ℝ, A.x i = (r : EReal)) (hw : ∀ i, ∃ r : ℝ, A.rw i = (r : EReal)) :
    OUT (parts A) = refOut A.x A.rw A.ix A.ew A.sw := by
  funext i
  obtain ⟨t, j, rfl⟩ : ∃ t j : Fin 512, i = ix2 t j := by
    refine ⟨i 0, i 1, funext fun a => ?_⟩
    obtain rfl | rfl : a = (0 : Fin 2) ∨ a = (1 : Fin 2) := by revert a; decide
    · rfl
    · rfl
  rw [OUT_eq]
  unfold total shared
  by_cases he : ∃ e : Fin 16, A.ix (ix2 t 0) = BitVec.ofNat 32 e.val
  · obtain ⟨e, he⟩ := he
    rw [refOut_chosen A.x A.rw A.ix A.ew A.sw t j e he]
    refine congrArg _ ?_
    exact shares_chosen (prob A.x A.rw) A.x A.ix (fun g k => A.ew (ix3 g k j)) t e he (prob_real A.x A.rw hx hw t e)
  · have hn : ∀ e : Fin 16, A.ix (ix2 t 0) ≠ BitVec.ofNat 32 e.val := fun e h => he ⟨e, h⟩
    rw [refOut_none A.x A.rw A.ix A.ew A.sw t j hn]
    have hz : ∑ g, shareOf A g t j = 0 := shares_none (prob A.x A.rw) A.x A.ix (fun g k => A.ew (ix3 g k j)) t hn
    rw [hz, add_zero]

/-- From memories that hold the same arrays, the tokens and the router's weights finite, the kernel's four devices and the
    reference end with the same result, and both leave their arguments unchanged. -/
theorem algebraic : Cert.algebraic_KernelIdeal_ReferenceIdeal_pre_finite_router_KernelIdeal := fun m g m' g' hpre hag => by
  let r0 : Thread Cert.ReferenceIdeal.nD Cert.ReferenceIdeal.τ := ((0 : Dev Cert.ReferenceIdeal.nD).tc : Thread Cert.ReferenceIdeal.nD Cert.ReferenceIdeal.τ)
  let A : Whole := ⟨m' (r0.loc Cert.ReferenceIdeal.main_arg0), m' (r0.loc Cert.ReferenceIdeal.main_arg1), m' (r0.loc Cert.ReferenceIdeal.main_arg2),
    m' (r0.loc Cert.ReferenceIdeal.main_arg3), m' (r0.loc Cert.ReferenceIdeal.main_arg4)⟩
  have hins : ins (F := Ideal) m g = parts A := funext fun c => by
    obtain ⟨h0, h1, h2, h3, h4⟩ := hag c
    rw [ins_eq]
    unfold parts
    congr 1
  have hfin := finite_of_pre _ _ _ _ _ (hpre 0)
  obtain ⟨h0, h1, -, -, -⟩ := hag 0
  have hx : ∀ i, ∃ r : ℝ, A.x i = (r : EReal) := fun i => by
    obtain ⟨r, hr⟩ := hfin.1 i
    exact ⟨r, (congrFun h0 i).symm.trans hr⟩
  have hw : ∀ i, ∃ r : ℝ, A.rw i = (r : EReal) := fun i => by
    obtain ⟨r, hr⟩ := hfin.2 i
    exact ⟨r, (congrFun h1 i).symm.trans hr⟩
  refine ⟨refOut A.x A.rw A.ix A.ew A.sw, ?_, ?_⟩
  · refine (θ_run _ _ _).mono (fun r h c => ⟨((h.1 c).1.trans (congrArg OUT hins)).trans (OUT_refOut A hx hw), (h.1 c).2⟩) (run_args (F := Ideal) m g)
  · refine (θ_run _ _ _).mono (fun r h => ⟨(h 0).1, (h 0).2⟩) (Cert.ReferenceIdeal.Value.run (F := Ideal) m' g')

/-- The frame under the precondition follows from the frame without it. -/
theorem frame_ideal_pre : Cert.quiescent_KernelIdeal_pre_finite_router_KernelIdeal := fun m g _ => frame_ideal m g trivial

/-- So does the reference's. -/
theorem frame_reference_pre : Cert.quiescent_ReferenceIdeal_pre_finite_router_ReferenceIdeal := fun m g _ => frame_reference m g trivial

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Moe.Frames
public import proofs.«01_k».proof.Proof.Moe.Algebraic
public import Idealize.ShloMosaic.Adequacy
public import Idealize.ShloMosaic.Init

@[expose] public section

noncomputable section

namespace Cert.Proof

open Idealize.ShloMosaic Idealize.SL.Sem Cert.Kernel

/-- The kernel runs, leaves its arguments unchanged and ends quiet, as printed and over the extended reals; so does the
    reference; the idealized kernel is the kernel's own text; and with finite tokens and router weights the kernel's
    result on its four devices is the reference's. -/
theorem claim : Cert.Claim := ⟨Cert.Kernel.Gen.facts, Cert.KernelIdeal.Gen.facts, Cert.ReferenceIdeal.Gen.facts,
  Cert.Moe.pre_kernel_facts, Cert.Moe.pre_reference_facts, Cert.Moe.frame_kernel, Cert.Moe.frame_ideal, Cert.Moe.frame_ideal_pre,
  Cert.Moe.frame_reference, Cert.Moe.frame_reference_pre, trivial, Cert.Moe.algebraic⟩

end Cert.Proof

end
